-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 2, 128]⟩ ⟨4, ![1, 32768, 2, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 2, 128]⟩ ⟨4, ![1, 32768, 2, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S1x4096x2x128 : Shape := ⟨4, ![1, 4096, 2, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x2x128 : S_.BroadcastsInDim S1x4096x2x128 (![] : Fin 0 → Fin S1x4096x2x128.rank)
  reducesTo_S1x4096x2x128_S_d0_1_2_3 : S1x4096x2x128.ReducesTo [0, 1, 2, 3] S_

variable [Facts]

def fn {F : FTy → Type} [FloatOps F] (main_arg0 : FVec F S1x256x1024 .f32) (main_arg1 : FVec F S1024x1024 .f32) (main_arg2 : FVec F S1x4096x2x128 .f32) (main_arg3 : FVec F S1x4096x2x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x2x128 .f32 := Host.absf main_arg2
  let main_cst_2 : FVec F S_ .f32 := constant S_ .f32 0x7F800000#32
  let main_v10 : FVec F S1x4096x2x128 .f32 := broadcastInDim S1x4096x2x128 ![] bcast_S_S1x4096x2x128 main_cst_2
  let main_v11 : IVec S1x4096x2x128 1 := cmpf .olt main_v9 main_v10
  let main_c_3 : IVec S_ 1 := constantI S_ 1 1#1
  let main_v12 : IVec S_ 1 := (fun x v => Host.reduce IntOp.andi x v reducesTo_S1x4096x2x128_S_d0_1_2_3 h_S_) main_v11 main_c_3
  let main_v13 : IVec S_ 1 := andi main_v8 main_v12
  main_v13
-- ==== Pre_scores_finite_ReferenceIdeal.lean ====
abbrev S1x256x1024 : Shape := ⟨3, ![1, 256, 1024]⟩
abbrev S1024x1024 : Shape := ⟨2, ![1024, 1024]⟩
abbrev S1x32768x2x128 : Shape := ⟨4, ![1, 32768, 2, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x2x128 : S_.BroadcastsInDim S1x32768x2x128 (![] : Fin 0 → Fin S1x32768x2x128.rank)
  reducesTo_S1x32768x2x128_S_d0_1_2_3 : S1x32768x2x128.ReducesTo [0, 1, 2, 3] S_

variable [Facts]

def fn {F : FTy → Type} [FloatOps F] (main_arg0 : FVec F S1x256x1024 .f32) (main_arg1 : FVec F S1024x1024 .f32) (main_arg2 : FVec F S1x32768x2x128 .f32) (main_arg3 : FVec F S1x32768x2x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x2x128 .f32 := Host.absf main_arg2
  let main_cst_2 : FVec F S_ .f32 := constant S_ .f32 0x7F800000#32
  let main_v10 : FVec F S1x32768x2x128 .f32 := broadcastInDim S1x32768x2x128 ![] bcast_S_S1x32768x2x128 main_cst_2
  let main_v11 : IVec S1x32768x2x128 1 := cmpf .olt main_v9 main_v10
  let main_c_3 : IVec S_ 1 := constantI S_ 1 1#1
  let main_v12 : IVec S_ 1 := (fun x v => Host.reduce IntOp.andi x v reducesTo_S1x32768x2x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x2x128 : Shape := ⟨4, ![1, 4096, 2, 128]⟩
abbrev S256x1024 : Shape := ⟨2, ![256, 1024]⟩
abbrev S256x1152 : Shape := ⟨2, ![256, 1152]⟩
abbrev S32x1024 : Shape := ⟨2, ![32, 1024]⟩
abbrev S7x32x1152 : Shape := ⟨3, ![7, 32, 1152]⟩
abbrev S7x32x1024 : Shape := ⟨3, ![7, 32, 1024]⟩
abbrev S7 : Shape := ⟨1, ![7]⟩
abbrev S_ : Shape := ⟨0, ![]⟩
abbrev S128x128 : Shape := ⟨2, ![128, 128]⟩
abbrev S1x4096x1x128 : Shape := ⟨4, ![1, 4096, 1, 128]⟩
abbrev S4096x128 : Shape := ⟨2, ![4096, 128]⟩
abbrev S128x4096 : Shape := ⟨2, ![128, 4096]⟩
abbrev S128 : Shape := ⟨1, ![128]⟩
abbrev S128x1 : Shape := ⟨2, ![128, 1]⟩
abbrev S128x8 : Shape := ⟨2, ![128, 8]⟩
abbrev S1 : Shape := ⟨1, ![1]⟩
abbrev S1x32x1152 : Shape := ⟨3, ![1, 32, 1152]⟩
abbrev S32x1152 : Shape := ⟨2, ![32, 1152]⟩
abbrev S32x8 : Shape := ⟨2, ![32, 8]⟩
abbrev S32x8x1 : Shape := ⟨3, ![32, 8, 1]⟩
abbrev S32x8x128 : Shape := ⟨3, ![32, 8, 128]⟩
abbrev S1x32x1024 : Shape := ⟨3, ![1, 32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x2x128, .f32⟩
  | .hbm, ⟨3, _⟩ => ⟨S1x4096x2x128, .f32⟩
  | .hbm, ⟨4, _⟩ => ⟨S1024x1024, .f32⟩
  | .hbm, ⟨5, _⟩ => ⟨S256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x4096x2x128, .f32⟩
  | .local _ .vmem, ⟨4, _⟩ => ⟨S1x4096x2x128, .f32⟩
  | .local _ .vmem, ⟨5, _⟩ => ⟨S256x1024, .f32⟩
  | .local _ .vmem, ⟨6, _⟩ => ⟨S256x1152, .bf16⟩
  | .local _ .vmem, ⟨7, _⟩ => ⟨S32x1024, .bf16⟩
  | .local _ .vmem, ⟨8, _⟩ => ⟨S7x32x1152, .bf16⟩
  | .local _ .vmem, ⟨9, _⟩ => ⟨S7x32x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v39 : BitVec 32 := Scalar.subi v2 c1_i32_34
  let c8_i32_35 : BitVec 32 := 8#32
  let v40 : BitVec 32 := Scalar.addi v39 c8_i32_35
  let c8_i32_36 : BitVec 32 := 8#32
  let v41 : BitVec 32 := Scalar.remsi v40 c8_i32_36
  let c0_i32_158 : BitVec 32 := 0#32
  let v184 : BitVec 1 := Scalar.cmpi .sge v41 c0_i32_158
  let c4_i32_159 : BitVec 32 := 4#32
  let v185 : BitVec 1 := Scalar.cmpi .slt v41 c4_i32_159
  let v186 : BitVec 1 := Scalar.andi v184 v185
  let v187 : BitVec 32 := Scalar.extui v186
  let c0_i32_163 : BitVec 32 := 0#32
  let v188 : BitVec 1 := Scalar.cmpi .ne v187 c0_i32_163
  v188

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v39 : BitVec 32 := Scalar.subi v2 c1_i32_34
  let c8_i32_35 : BitVec 32 := 8#32
  let v40 : BitVec 32 := Scalar.addi v39 c8_i32_35
  let c8_i32_36 : BitVec 32 := 8#32
  let v41 : BitVec 32 := Scalar.remsi v40 c8_i32_36
  let c32_i32 : BitVec 32 := 32#32
  let v42 : BitVec 32 := Scalar.muli v41 c32_i32
  let c0_i32_692 : BitVec 32 := 0#32
  ![v42.toNat, 0]
def k0_dev8 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v39 : BitVec 32 := Scalar.subi v2 c1_i32_34
  let c8_i32_35 : BitVec 32 := 8#32
  let v40 : BitVec 32 := Scalar.addi v39 c8_i32_35
  let c8_i32_36 : BitVec 32 := 8#32
  let v41 : BitVec 32 := Scalar.remsi v40 c8_i32_36
  let c1_i32_688 : BitVec 32 := 1#32
  let v736 : BitVec 32 := Scalar.muli v41 c1_i32_688
  let v737 : BitVec 32 := Scalar.addi c0_i32_689 v736
  v737.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v43 : BitVec 32 := Scalar.subi v2 c2_i32_37
  let c8_i32_38 : BitVec 32 := 8#32
  let v44 : BitVec 32 := Scalar.addi v43 c8_i32_38
  let c8_i32_39 : BitVec 32 := 8#32
  let v45 : BitVec 32 := Scalar.remsi v44 c8_i32_39
  let c0_i32_164 : BitVec 32 := 0#32
  let v189 : BitVec 1 := Scalar.cmpi .sge v45 c0_i32_164
  let c4_i32_165 : BitVec 32 := 4#32
  let v190 : BitVec 1 := Scalar.cmpi .slt v45 c4_i32_165
  let v191 : BitVec 1 := Scalar.andi v189 v190
  let v192 : BitVec 32 := Scalar.extui v191
  let c0_i32_169 : BitVec 32 := 0#32
  let v193 : BitVec 1 := Scalar.cmpi .ne v192 c0_i32_169
  v193

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v43 : BitVec 32 := Scalar.subi v2 c2_i32_37
  let c8_i32_38 : BitVec 32 := 8#32
  let v44 : BitVec 32 := Scalar.addi v43 c8_i32_38
  let c8_i32_39 : BitVec 32 := 8#32
  let v45 : BitVec 32 := Scalar.remsi v44 c8_i32_39
  let c32_i32_40 : BitVec 32 := 32#32
  let v46 : BitVec 32 := Scalar.muli v45 c32_i32_40
  let c0_i32_692 : BitVec 32 := 0#32
  ![v46.toNat, 0]
def k0_dev9 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v43 : BitVec 32 := Scalar.subi v2 c2_i32_37
  let c8_i32_38 : BitVec 32 := 8#32
  let v44 : BitVec 32 := Scalar.addi v43 c8_i32_38
  let c8_i32_39 : BitVec 32 := 8#32
  let v45 : BitVec 32 := Scalar.remsi v44 c8_i32_39
  let c1_i32_688 : BitVec 32 := 1#32
  let v736 : BitVec 32 := Scalar.muli v45 c1_i32_688
  let v737 : BitVec 32 := Scalar.addi c0_i32_689 v736
  v737.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v47 : BitVec 32 := Scalar.subi v2 c3_i32_41
  let c8_i32_42 : BitVec 32 := 8#32
  let v48 : BitVec 32 := Scalar.addi v47 c8_i32_42
  let c8_i32_43 : BitVec 32 := 8#32
  let v49 : BitVec 32 := Scalar.remsi v48 c8_i32_43
  let c0_i32_170 : BitVec 32 := 0#32
  let v194 : BitVec 1 := Scalar.cmpi .sge v49 c0_i32_170
  let c4_i32_171 : BitVec 32 := 4#32
  let v195 : BitVec 1 := Scalar.cmpi .slt v49 c4_i32_171
  let v196 : BitVec 1 := Scalar.andi v194 v195
  let v197 : BitVec 32 := Scalar.extui v196
  let c0_i32_175 : BitVec 32 := 0#32
  let v198 : BitVec 1 := Scalar.cmpi .ne v197 c0_i32_175
  v198

def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v47 : BitVec 32 := Scalar.subi v2 c3_i32_41
  let c8_i32_42 : BitVec 32 := 8#32
  let v48 : BitVec 32 := Scalar.addi v47 c8_i32_42
  let c8_i32_43 : BitVec 32 := 8#32
  let v49 : BitVec 32 := Scalar.remsi v48 c8_i32_43
  let c32_i32_44 : BitVec 32 := 32#32
  let v50 : BitVec 32 := Scalar.muli v49 c32_i32_44
  let c0_i32_692 : BitVec 32 := 0#32
  ![v50.toNat, 0]
def k0_dev10 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v47 : BitVec 32 := Scalar.subi v2 c3_i32_41
  let c8_i32_42 : BitVec 32 := 8#32
  let v48 : BitVec 32 := Scalar.addi v47 c8_i32_42
  let c8_i32_43 : BitVec 32 := 8#32
  let v49 : BitVec 32 := Scalar.remsi v48 c8_i32_43
  let c1_i32_688 : BitVec 32 := 1#32
  let v736 : BitVec 32 := Scalar.muli v49 c1_i32_688
  let v737 : BitVec 32 := Scalar.addi c0_i32_689 v736
  v737.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v51 : BitVec 32 := Scalar.subi v2 c4_i32_45
  let c8_i32_46 : BitVec 32 := 8#32
  let v52 : BitVec 32 := Scalar.addi v51 c8_i32_46
  let c8_i32_47 : BitVec 32 := 8#32
  let v53 : BitVec 32 := Scalar.remsi v52 c8_i32_47
  let c0_i32_176 : BitVec 32 := 0#32
  let v199 : BitVec 1 := Scalar.cmpi .sge v53 c0_i32_176
  let c4_i32_177 : BitVec 32 := 4#32
  let v200 : BitVec 1 := Scalar.cmpi .slt v53 c4_i32_177
  let v201 : BitVec 1 := Scalar.andi v199 v200
  let v202 : BitVec 32 := Scalar.extui v201
  let c0_i32_181 : BitVec 32 := 0#32
  let v203 : BitVec 1 := Scalar.cmpi .ne v202 c0_i32_181
  v203

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v51 : BitVec 32 := Scalar.subi v2 c4_i32_45
  let c8_i32_46 : BitVec 32 := 8#32
  let v52 : BitVec 32 := Scalar.addi v51 c8_i32_46
  let c8_i32_47 : BitVec 32 := 8#32
  let v53 : BitVec 32 := Scalar.remsi v52 c8_i32_47
  let c32_i32_48 : BitVec 32 := 32#32
  let v54 : BitVec 32 := Scalar.muli v53 c32_i32_48
  let c0_i32_692 : BitVec 32 := 0#32
  ![v54.toNat, 0]
def k0_dev11 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v51 : BitVec 32 := Scalar.subi v2 c4_i32_45
  let c8_i32_46 : BitVec 32 := 8#32
  let v52 : BitVec 32 := Scalar.addi v51 c8_i32_46
  let c8_i32_47 : BitVec 32 := 8#32
  let v53 : BitVec 32 := Scalar.remsi v52 c8_i32_47
  let c1_i32_688 : BitVec 32 := 1#32
  let v736 : BitVec 32 := Scalar.muli v53 c1_i32_688
  let v737 : BitVec 32 := Scalar.addi c0_i32_689 v736
  v737.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v55 : BitVec 32 := Scalar.subi v2 c5_i32_49
  let c8_i32_50 : BitVec 32 := 8#32
  let v56 : BitVec 32 := Scalar.addi v55 c8_i32_50
  let c8_i32_51 : BitVec 32 := 8#32
  let v57 : BitVec 32 := Scalar.remsi v56 c8_i32_51
  let c0_i32_182 : BitVec 32 := 0#32
  let v204 : BitVec 1 := Scalar.cmpi .sge v57 c0_i32_182
  let c4_i32_183 : BitVec 32 := 4#32
  let v205 : BitVec 1 := Scalar.cmpi .slt v57 c4_i32_183
  let v206 : BitVec 1 := Scalar.andi v204 v205
  let v207 : BitVec 32 := Scalar.extui v206
  let c0_i32_187 : BitVec 32 := 0#32
  let v208 : BitVec 1 := Scalar.cmpi .ne v207 c0_i32_187
  v208

def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v55 : BitVec 32 := Scalar.subi v2 c5_i32_49
  let c8_i32_50 : BitVec 32 := 8#32
  let v56 : BitVec 32 := Scalar.addi v55 c8_i32_50
  let c8_i32_51 : BitVec 32 := 8#32
  let v57 : BitVec 32 := Scalar.remsi v56 c8_i32_51
  let c32_i32_52 : BitVec 32 := 32#32
  let v58 : BitVec 32 := Scalar.muli v57 c32_i32_52
  let c0_i32_692 : BitVec 32 := 0#32
  ![v58.toNat, 0]
def k0_dev12 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v55 : BitVec 32 := Scalar.subi v2 c5_i32_49
  let c8_i32_50 : BitVec 32 := 8#32
  let v56 : BitVec 32 := Scalar.addi v55 c8_i32_50
  let c8_i32_51 : BitVec 32 := 8#32
  let v57 : BitVec 32 := Scalar.remsi v56 c8_i32_51
  let c1_i32_688 : BitVec 32 := 1#32
  let v736 : BitVec 32 := Scalar.muli v57 c1_i32_688
  let v737 : BitVec 32 := Scalar.addi c0_i32_689 v736
  v737.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v59 : BitVec 32 := Scalar.subi v2 c6_i32_53
  let c8_i32_54 : BitVec 32 := 8#32
  let v60 : BitVec 32 := Scalar.addi v59 c8_i32_54
  let c8_i32_55 : BitVec 32 := 8#32
  let v61 : BitVec 32 := Scalar.remsi v60 c8_i32_55
  let c0_i32_188 : BitVec 32 := 0#32
  let v209 : BitVec 1 := Scalar.cmpi .sge v61 c0_i32_188
  let c4_i32_189 : BitVec 32 := 4#32
  let v210 : BitVec 1 := Scalar.cmpi .slt v61 c4_i32_189
  let v211 : BitVec 1 := Scalar.andi v209 v210
  let v212 : BitVec 32 := Scalar.extui v211
  let c0_i32_193 : BitVec 32 := 0#32
  let v213 : BitVec 1 := Scalar.cmpi .ne v212 c0_i32_193
  v213

def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v59 : BitVec 32 := Scalar.subi v2 c6_i32_53
  let c8_i32_54 : BitVec 32 := 8#32
  let v60 : BitVec 32 := Scalar.addi v59 c8_i32_54
  let c8_i32_55 : BitVec 32 := 8#32
  let v61 : BitVec 32 := Scalar.remsi v60 c8_i32_55
  let c32_i32_56 : BitVec 32 := 32#32
  let v62 : BitVec 32 := Scalar.muli v61 c32_i32_56
  let c0_i32_692 : BitVec 32 := 0#32
  ![v62.toNat, 0]
def k0_dev13 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v59 : BitVec 32 := Scalar.subi v2 c6_i32_53
  let c8_i32_54 : BitVec 32 := 8#32
  let v60 : BitVec 32 := Scalar.addi v59 c8_i32_54
  let c8_i32_55 : BitVec 32 := 8#32
  let v61 : BitVec 32 := Scalar.remsi v60 c8_i32_55
  let c1_i32_688 : BitVec 32 := 1#32
  let v736 : BitVec 32 := Scalar.muli v61 c1_i32_688
  let v737 : BitVec 32 := Scalar.addi c0_i32_689 v736
  v737.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v63 : BitVec 32 := Scalar.subi v2 c7_i32_57
  let c8_i32_58 : BitVec 32 := 8#32
  let v64 : BitVec 32 := Scalar.addi v63 c8_i32_58
  let c8_i32_59 : BitVec 32 := 8#32
  let v65 : BitVec 32 := Scalar.remsi v64 c8_i32_59
  let c0_i32_194 : BitVec 32 := 0#32
  let v214 : BitVec 1 := Scalar.cmpi .sge v65 c0_i32_194
  let c4_i32_195 : BitVec 32 := 4#32
  let v215 : BitVec 1 := Scalar.cmpi .slt v65 c4_i32_195
  let v216 : BitVec 1 := Scalar.andi v214 v215
  let v217 : BitVec 32 := Scalar.extui v216
  let c0_i32_199 : BitVec 32 := 0#32
  let v218 : BitVec 1 := Scalar.cmpi .ne v217 c0_i32_199
  v218

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v63 : BitVec 32 := Scalar.subi v2 c7_i32_57
  let c8_i32_58 : BitVec 32 := 8#32
  let v64 : BitVec 32 := Scalar.addi v63 c8_i32_58
  let c8_i32_59 : BitVec 32 := 8#32
  let v65 : BitVec 32 := Scalar.remsi v64 c8_i32_59
  let c32_i32_60 : BitVec 32 := 32#32
  let v66 : BitVec 32 := Scalar.muli v65 c32_i32_60
  let c0_i32_692 : BitVec 32 := 0#32
  ![v66.toNat, 0]
def k0_dev14 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v63 : BitVec 32 := Scalar.subi v2 c7_i32_57
  let c8_i32_58 : BitVec 32 := 8#32
  let v64 : BitVec 32 := Scalar.addi v63 c8_i32_58
  let c8_i32_59 : BitVec 32 := 8#32
  let v65 : BitVec 32 := Scalar.remsi v64 c8_i32_59
  let c1_i32_688 : BitVec 32 := 1#32
  let v736 : BitVec 32 := Scalar.muli v65 c1_i32_688
  let v737 : BitVec 32 := Scalar.addi c0_i32_689 v736
  v737.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v39 : BitVec 32 := Scalar.subi v2 c1_i32_34
  let c8_i32_35 : BitVec 32 := 8#32
  let v40 : BitVec 32 := Scalar.addi v39 c8_i32_35
  let c8_i32_36 : BitVec 32 := 8#32
  let v41 : BitVec 32 := Scalar.remsi v40 c8_i32_36
  let c4_i32_306 : BitVec 32 := 4#32
  let v336 : BitVec 1 := Scalar.cmpi .sge v41 c4_i32_306
  let c8_i32_307 : BitVec 32 := 8#32
  let v337 : BitVec 1 := Scalar.cmpi .slt v41 c8_i32_307
  let v338 : BitVec 1 := Scalar.andi v336 v337
  let v339 : BitVec 32 := Scalar.extui v338
  let c0_i32_311 : BitVec 32 := 0#32
  let v340 : BitVec 1 := Scalar.cmpi .ne v339 c0_i32_311
  v340

def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v39 : BitVec 32 := Scalar.subi v2 c1_i32_34
  let c8_i32_35 : BitVec 32 := 8#32
  let v40 : BitVec 32 := Scalar.addi v39 c8_i32_35
  let c8_i32_36 : BitVec 32 := 8#32
  let v41 : BitVec 32 := Scalar.remsi v40 c8_i32_36
  let c32_i32 : BitVec 32 := 32#32
  let v42 : BitVec 32 := Scalar.muli v41 c32_i32
  let c0_i32_692 : BitVec 32 := 0#32
  ![v42.toNat, 0]
def k0_dev15 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v39 : BitVec 32 := Scalar.subi v2 c1_i32_34
  let c8_i32_35 : BitVec 32 := 8#32
  let v40 : BitVec 32 := Scalar.addi v39 c8_i32_35
  let c8_i32_36 : BitVec 32 := 8#32
  let v41 : BitVec 32 := Scalar.remsi v40 c8_i32_36
  let c1_i32_688 : BitVec 32 := 1#32
  let v736 : BitVec 32 := Scalar.muli v41 c1_i32_688
  let v737 : BitVec 32 := Scalar.addi c0_i32_689 v736
  v737.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v43 : BitVec 32 := Scalar.subi v2 c2_i32_37
  let c8_i32_38 : BitVec 32 := 8#32
  let v44 : BitVec 32 := Scalar.addi v43 c8_i32_38
  let c8_i32_39 : BitVec 32 := 8#32
  let v45 : BitVec 32 := Scalar.remsi v44 c8_i32_39
  let c4_i32_312 : BitVec 32 := 4#32
  let v341 : BitVec 1 := Scalar.cmpi .sge v45 c4_i32_312
  let c8_i32_313 : BitVec 32 := 8#32
  let v342 : BitVec 1 := Scalar.cmpi .slt v45 c8_i32_313
  let v343 : BitVec 1 := Scalar.andi v341 v342
  let v344 : BitVec 32 := Scalar.extui v343
  let c0_i32_317 : BitVec 32 := 0#32
  let v345 : BitVec 1 := Scalar.cmpi .ne v344 c0_i32_317
  v345

def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v43 : BitVec 32 := Scalar.subi v2 c2_i32_37
  let c8_i32_38 : BitVec 32 := 8#32
  let v44 : BitVec 32 := Scalar.addi v43 c8_i32_38
  let c8_i32_39 : BitVec 32 := 8#32
  let v45 : BitVec 32 := Scalar.remsi v44 c8_i32_39
  let c32_i32_40 : BitVec 32 := 32#32
  let v46 : BitVec 32 := Scalar.muli v45 c32_i32_40
  let c0_i32_692 : BitVec 32 := 0#32
  ![v46.toNat, 0]
def k0_dev16 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v43 : BitVec 32 := Scalar.subi v2 c2_i32_37
  let c8_i32_38 : BitVec 32 := 8#32
  let v44 : BitVec 32 := Scalar.addi v43 c8_i32_38
  let c8_i32_39 : BitVec 32 := 8#32
  let v45 : BitVec 32 := Scalar.remsi v44 c8_i32_39
  let c1_i32_688 : BitVec 32 := 1#32
  let v736 : BitVec 32 := Scalar.muli v45 c1_i32_688
  let v737 : BitVec 32 := Scalar.addi c0_i32_689 v736
  v737.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v47 : BitVec 32 := Scalar.subi v2 c3_i32_41
  let c8_i32_42 : BitVec 32 := 8#32
  let v48 : BitVec 32 := Scalar.addi v47 c8_i32_42
  let c8_i32_43 : BitVec 32 := 8#32
  let v49 : BitVec 32 := Scalar.remsi v48 c8_i32_43
  let c4_i32_318 : BitVec 32 := 4#32
  let v346 : BitVec 1 := Scalar.cmpi .sge v49 c4_i32_318
  let c8_i32_319 : BitVec 32 := 8#32
  let v347 : BitVec 1 := Scalar.cmpi .slt v49 c8_i32_319
  let v348 : BitVec 1 := Scalar.andi v346 v347
  let v349 : BitVec 32 := Scalar.extui v348
  let c0_i32_323 : BitVec 32 := 0#32
  let v350 : BitVec 1 := Scalar.cmpi .ne v349 c0_i32_323
  v350

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v47 : BitVec 32 := Scalar.subi v2 c3_i32_41
  let c8_i32_42 : BitVec 32 := 8#32
  let v48 : BitVec 32 := Scalar.addi v47 c8_i32_42
  let c8_i32_43 : BitVec 32 := 8#32
  let v49 : BitVec 32 := Scalar.remsi v48 c8_i32_43
  let c32_i32_44 : BitVec 32 := 32#32
  let v50 : BitVec 32 := Scalar.muli v49 c32_i32_44
  let c0_i32_692 : BitVec 32 := 0#32
  ![v50.toNat, 0]
def k0_dev17 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v47 : BitVec 32 := Scalar.subi v2 c3_i32_41
  let c8_i32_42 : BitVec 32 := 8#32
  let v48 : BitVec 32 := Scalar.addi v47 c8_i32_42
  let c8_i32_43 : BitVec 32 := 8#32
  let v49 : BitVec 32 := Scalar.remsi v48 c8_i32_43
  let c1_i32_688 : BitVec 32 := 1#32
  let v736 : BitVec 32 := Scalar.muli v49 c1_i32_688
  let v737 : BitVec 32 := Scalar.addi c0_i32_689 v736
  v737.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v51 : BitVec 32 := Scalar.subi v2 c4_i32_45
  let c8_i32_46 : BitVec 32 := 8#32
  let v52 : BitVec 32 := Scalar.addi v51 c8_i32_46
  let c8_i32_47 : BitVec 32 := 8#32
  let v53 : BitVec 32 := Scalar.remsi v52 c8_i32_47
  let c4_i32_324 : BitVec 32 := 4#32
  let v351 : BitVec 1 := Scalar.cmpi .sge v53 c4_i32_324
  let c8_i32_325 : BitVec 32 := 8#32
  let v352 : BitVec 1 := Scalar.cmpi .slt v53 c8_i32_325
  let v353 : BitVec 1 := Scalar.andi v351 v352
  let v354 : BitVec 32 := Scalar.extui v353
  let c0_i32_329 : BitVec 32 := 0#32
  let v355 : BitVec 1 := Scalar.cmpi .ne v354 c0_i32_329
  v355

def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v51 : BitVec 32 := Scalar.subi v2 c4_i32_45
  let c8_i32_46 : BitVec 32 := 8#32
  let v52 : BitVec 32 := Scalar.addi v51 c8_i32_46
  let c8_i32_47 : BitVec 32 := 8#32
  let v53 : BitVec 32 := Scalar.remsi v52 c8_i32_47
  let c32_i32_48 : BitVec 32 := 32#32
  let v54 : BitVec 32 := Scalar.muli v53 c32_i32_48
  let c0_i32_692 : BitVec 32 := 0#32
  ![v54.toNat, 0]
def k0_dev18 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v51 : BitVec 32 := Scalar.subi v2 c4_i32_45
  let c8_i32_46 : BitVec 32 := 8#32
  let v52 : BitVec 32 := Scalar.addi v51 c8_i32_46
  let c8_i32_47 : BitVec 32 := 8#32
  let v53 : BitVec 32 := Scalar.remsi v52 c8_i32_47
  let c1_i32_688 : BitVec 32 := 1#32
  let v736 : BitVec 32 := Scalar.muli v53 c1_i32_688
  let v737 : BitVec 32 := Scalar.addi c0_i32_689 v736
  v737.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v55 : BitVec 32 := Scalar.subi v2 c5_i32_49
  let c8_i32_50 : BitVec 32 := 8#32
  let v56 : BitVec 32 := Scalar.addi v55 c8_i32_50
  let c8_i32_51 : BitVec 32 := 8#32
  let v57 : BitVec 32 := Scalar.remsi v56 c8_i32_51
  let c4_i32_330 : BitVec 32 := 4#32
  let v356 : BitVec 1 := Scalar.cmpi .sge v57 c4_i32_330
  let c8_i32_331 : BitVec 32 := 8#32
  let v357 : BitVec 1 := Scalar.cmpi .slt v57 c8_i32_331
  let v358 : BitVec 1 := Scalar.andi v356 v357
  let v359 : BitVec 32 := Scalar.extui v358
  let c0_i32_335 : BitVec 32 := 0#32
  let v360 : BitVec 1 := Scalar.cmpi .ne v359 c0_i32_335
  v360

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v55 : BitVec 32 := Scalar.subi v2 c5_i32_49
  let c8_i32_50 : BitVec 32 := 8#32
  let v56 : BitVec 32 := Scalar.addi v55 c8_i32_50
  let c8_i32_51 : BitVec 32 := 8#32
  let v57 : BitVec 32 := Scalar.remsi v56 c8_i32_51
  let c32_i32_52 : BitVec 32 := 32#32
  let v58 : BitVec 32 := Scalar.muli v57 c32_i32_52
  let c0_i32_692 : BitVec 32 := 0#32
  ![v58.toNat, 0]
def k0_dev19 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v55 : BitVec 32 := Scalar.subi v2 c5_i32_49
  let c8_i32_50 : BitVec 32 := 8#32
  let v56 : BitVec 32 := Scalar.addi v55 c8_i32_50
  let c8_i32_51 : BitVec 32 := 8#32
  let v57 : BitVec 32 := Scalar.remsi v56 c8_i32_51
  let c1_i32_688 : BitVec 32 := 1#32
  let v736 : BitVec 32 := Scalar.muli v57 c1_i32_688
  let v737 : BitVec 32 := Scalar.addi c0_i32_689 v736
  v737.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v59 : BitVec 32 := Scalar.subi v2 c6_i32_53
  let c8_i32_54 : BitVec 32 := 8#32
  let v60 : BitVec 32 := Scalar.addi v59 c8_i32_54
  let c8_i32_55 : BitVec 32 := 8#32
  let v61 : BitVec 32 := Scalar.remsi v60 c8_i32_55
  let c4_i32_336 : BitVec 32 := 4#32
  let v361 : BitVec 1 := Scalar.cmpi .sge v61 c4_i32_336
  let c8_i32_337 : BitVec 32 := 8#32
  let v362 : BitVec 1 := Scalar.cmpi .slt v61 c8_i32_337
  let v363 : BitVec 1 := Scalar.andi v361 v362
  let v364 : BitVec 32 := Scalar.extui v363
  let c0_i32_341 : BitVec 32 := 0#32
  let v365 : BitVec 1 := Scalar.cmpi .ne v364 c0_i32_341
  v365

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v59 : BitVec 32 := Scalar.subi v2 c6_i32_53
  let c8_i32_54 : BitVec 32 := 8#32
  let v60 : BitVec 32 := Scalar.addi v59 c8_i32_54
  let c8_i32_55 : BitVec 32 := 8#32
  let v61 : BitVec 32 := Scalar.remsi v60 c8_i32_55
  let c32_i32_56 : BitVec 32 := 32#32
  let v62 : BitVec 32 := Scalar.muli v61 c32_i32_56
  let c0_i32_692 : BitVec 32 := 0#32
  ![v62.toNat, 0]
def k0_dev20 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v59 : BitVec 32 := Scalar.subi v2 c6_i32_53
  let c8_i32_54 : BitVec 32 := 8#32
  let v60 : BitVec 32 := Scalar.addi v59 c8_i32_54
  let c8_i32_55 : BitVec 32 := 8#32
  let v61 : BitVec 32 := Scalar.remsi v60 c8_i32_55
  let c1_i32_688 : BitVec 32 := 1#32
  let v736 : BitVec 32 := Scalar.muli v61 c1_i32_688
  let v737 : BitVec 32 := Scalar.addi c0_i32_689 v736
  v737.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v63 : BitVec 32 := Scalar.subi v2 c7_i32_57
  let c8_i32_58 : BitVec 32 := 8#32
  let v64 : BitVec 32 := Scalar.addi v63 c8_i32_58
  let c8_i32_59 : BitVec 32 := 8#32
  let v65 : BitVec 32 := Scalar.remsi v64 c8_i32_59
  let c4_i32_342 : BitVec 32 := 4#32
  let v366 : BitVec 1 := Scalar.cmpi .sge v65 c4_i32_342
  let c8_i32_343 : BitVec 32 := 8#32
  let v367 : BitVec 1 := Scalar.cmpi .slt v65 c8_i32_343
  let v368 : BitVec 1 := Scalar.andi v366 v367
  let v369 : BitVec 32 := Scalar.extui v368
  let c0_i32_347 : BitVec 32 := 0#32
  let v370 : BitVec 1 := Scalar.cmpi .ne v369 c0_i32_347
  v370

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v63 : BitVec 32 := Scalar.subi v2 c7_i32_57
  let c8_i32_58 : BitVec 32 := 8#32
  let v64 : BitVec 32 := Scalar.addi v63 c8_i32_58
  let c8_i32_59 : BitVec 32 := 8#32
  let v65 : BitVec 32 := Scalar.remsi v64 c8_i32_59
  let c32_i32_60 : BitVec 32 := 32#32
  let v66 : BitVec 32 := Scalar.muli v65 c32_i32_60
  let c0_i32_692 : BitVec 32 := 0#32
  ![v66.toNat, 0]
def k0_dev21 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_57 : BitVec 32 := 7#32
  let v63 : BitVec 32 := Scalar.subi v2 c7_i32_57
  let c8_i32_58 : BitVec 32 := 8#32
  let v64 : BitVec 32 := Scalar.addi v63 c8_i32_58
  let c8_i32_59 : BitVec 32 := 8#32
  let v65 : BitVec 32 := Scalar.remsi v64 c8_i32_59
  let c1_i32_688 : BitVec 32 := 1#32
  let v736 : BitVec 32 := Scalar.muli v65 c1_i32_688
  let v737 : BitVec 32 := Scalar.addi c0_i32_689 v736
  v737.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_348 : BitVec 32 := 32#32
  let v371 : BitVec 32 := Scalar.muli v2 c32_i32_348
  let v372 : Index := Scalar.indexCast v371
  let c0_349 : Index := 0#32
  ![v372.toNat, 0]
def k0_off16 (d0 : Dev nD) (c1_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.subi v2 c1_i32_34
  let c8_i32_35 : BitVec 32 := 8#32
  let v40 : BitVec 32 := Scalar.addi v39 c8_i32_35
  let c8_i32_36 : BitVec 32 := 8#32
  let v41 : BitVec 32 := Scalar.remsi v40 c8_i32_36
  let c32_i32 : BitVec 32 := 32#32
  let v42 : BitVec 32 := Scalar.muli v41 c32_i32
  let c0_i32_357 : BitVec 32 := 0#32
  ![v42.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_425 : BitVec 32 := 32#32
  let v491 : BitVec 32 := Scalar.muli v2 c32_i32_425
  let v492 : Index := Scalar.indexCast v491
  let c0_426 : Index := 0#32
  ![v492.toNat, 0]
def k0_dev22 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_429 : BitVec 32 := 1#32
  let v498 : BitVec 32 := Scalar.subi v2 c1_i32_429
  let c8_i32_430 : BitVec 32 := 8#32
  let v499 : BitVec 32 := Scalar.addi v498 c8_i32_430
  let c8_i32_431 : BitVec 32 := 8#32
  let v500 : BitVec 32 := Scalar.remsi v499 c8_i32_431
  let c1_i32_435 : BitVec 32 := 1#32
  let v501 : BitVec 32 := Scalar.muli v500 c1_i32_435
  let v502 : BitVec 32 := Scalar.addi c0_i32_436 v501
  v502.toNat
def k0_dev23 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_439 : BitVec 32 := 2#32
  let v509 : BitVec 32 := Scalar.subi v2 c2_i32_439
  let c8_i32_440 : BitVec 32 := 8#32
  let v510 : BitVec 32 := Scalar.addi v509 c8_i32_440
  let c8_i32_441 : BitVec 32 := 8#32
  let v511 : BitVec 32 := Scalar.remsi v510 c8_i32_441
  let c1_i32_445 : BitVec 32 := 1#32
  let v512 : BitVec 32 := Scalar.muli v511 c1_i32_445
  let v513 : BitVec 32 := Scalar.addi c0_i32_446 v512
  v513.toNat
def k0_dev24 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_449 : BitVec 32 := 3#32
  let v520 : BitVec 32 := Scalar.subi v2 c3_i32_449
  let c8_i32_450 : BitVec 32 := 8#32
  let v521 : BitVec 32 := Scalar.addi v520 c8_i32_450
  let c8_i32_451 : BitVec 32 := 8#32
  let v522 : BitVec 32 := Scalar.remsi v521 c8_i32_451
  let c1_i32_455 : BitVec 32 := 1#32
  let v523 : BitVec 32 := Scalar.muli v522 c1_i32_455
  let v524 : BitVec 32 := Scalar.addi c0_i32_456 v523
  v524.toNat
def k0_dev25 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_459 : BitVec 32 := 4#32
  let v531 : BitVec 32 := Scalar.subi v2 c4_i32_459
  let c8_i32_460 : BitVec 32 := 8#32
  let v532 : BitVec 32 := Scalar.addi v531 c8_i32_460
  let c8_i32_461 : BitVec 32 := 8#32
  let v533 : BitVec 32 := Scalar.remsi v532 c8_i32_461
  let c1_i32_465 : BitVec 32 := 1#32
  let v534 : BitVec 32 := Scalar.muli v533 c1_i32_465
  let v535 : BitVec 32 := Scalar.addi c0_i32_466 v534
  v535.toNat
def k0_dev26 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_469 : BitVec 32 := 5#32
  let v542 : BitVec 32 := Scalar.subi v2 c5_i32_469
  let c8_i32_470 : BitVec 32 := 8#32
  let v543 : BitVec 32 := Scalar.addi v542 c8_i32_470
  let c8_i32_471 : BitVec 32 := 8#32
  let v544 : BitVec 32 := Scalar.remsi v543 c8_i32_471
  let c1_i32_475 : BitVec 32 := 1#32
  let v545 : BitVec 32 := Scalar.muli v544 c1_i32_475
  let v546 : BitVec 32 := Scalar.addi c0_i32_476 v545
  v546.toNat
def k0_dev27 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_479 : BitVec 32 := 6#32
  let v553 : BitVec 32 := Scalar.subi v2 c6_i32_479
  let c8_i32_480 : BitVec 32 := 8#32
  let v554 : BitVec 32 := Scalar.addi v553 c8_i32_480
  let c8_i32_481 : BitVec 32 := 8#32
  let v555 : BitVec 32 := Scalar.remsi v554 c8_i32_481
  let c1_i32_485 : BitVec 32 := 1#32
  let v556 : BitVec 32 := Scalar.muli v555 c1_i32_485
  let v557 : BitVec 32 := Scalar.addi c0_i32_486 v556
  v557.toNat
def k0_dev28 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_489 : BitVec 32 := 7#32
  let v564 : BitVec 32 := Scalar.subi v2 c7_i32_489
  let c8_i32_490 : BitVec 32 := 8#32
  let v565 : BitVec 32 := Scalar.addi v564 c8_i32_490
  let c8_i32_491 : BitVec 32 := 8#32
  let v566 : BitVec 32 := Scalar.remsi v565 c8_i32_491
  let c1_i32_495 : BitVec 32 := 1#32
  let v567 : BitVec 32 := Scalar.muli v566 c1_i32_495
  let v568 : BitVec 32 := Scalar.addi c0_i32_496 v567
  v568.toNat
def k0_off18 (d0 : Dev nD) (c1_i32_506 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v581 : BitVec 32 := Scalar.addi v2 c1_i32_506
  let c8_i32_507 : BitVec 32 := 8#32
  let v582 : BitVec 32 := Scalar.remsi v581 c8_i32_507
  let c32_i32_511 : BitVec 32 := 32#32
  let v586 : BitVec 32 := Scalar.muli v582 c32_i32_511
  let v587 : Index := Scalar.indexCast v586
  let c0_512 : Index := 0#32
  ![v587.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x32768x2x128 : Shape := ⟨4, ![1, 32768, 2, 128]⟩
abbrev S1x256x8x128 : Shape := ⟨4, ![1, 256, 8, 128]⟩
abbrev S1x32768x2x4x128 : Shape := ⟨5, ![1, 32768, 2, 4, 128]⟩
abbrev S1x32768x8x128 : Shape := ⟨4, ![1, 32768, 8, 128]⟩
abbrev S1x8x256x32768 : Shape := ⟨4, ![1, 8, 256, 32768]⟩
abbrev S_ : Shape := ⟨0, ![]⟩
abbrev S1x8x256 : Shape := ⟨3, ![1, 8, 256]⟩
abbrev S1x8x256x1 : Shape := ⟨4, ![1, 8, 256, 1]⟩
abbrev S1x8x128x256 : Shape := ⟨4, ![1, 8, 128, 256]⟩
abbrev S1x256x8x1 : Shape := ⟨4, ![1, 256, 8, 1]⟩
abbrev S256x1024 : Shape := ⟨2, ![256, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x32768x2x128, .f32⟩
  | .hbm, ⟨3, _⟩ => ⟨S1x32768x2x128, .f32⟩
  | .hbm, ⟨4, _⟩ => ⟨S1024x1024, .f32⟩
  | .hbm, ⟨5, _⟩ => ⟨S1x256x1024, .f32⟩
  | .hbm, ⟨6, _⟩ => ⟨S1x256x8x128, .f32⟩
  | .hbm, ⟨7, _⟩ => ⟨S1x32768x2x4x128, .f32⟩
  | .hbm, ⟨8, _⟩ => ⟨S1x32768x8x128, .f32⟩
  | .hbm, ⟨9, _⟩ => ⟨S1x32768x2x4x128, .f32⟩
  | .hbm, ⟨10, _⟩ => ⟨S1x32768x8x128, .f32⟩
  | .hbm, ⟨11, _⟩ => ⟨S1x8x256x32768, .f32⟩
  | .hbm, ⟨12, _⟩ => ⟨S_, .f32⟩
  | .hbm, ⟨13, _⟩ => ⟨S1x8x256x32768, .f32⟩
  | .hbm, ⟨14, _⟩ => ⟨S1x8x256x32768, .f32⟩
  | .hbm, ⟨15, _⟩ => ⟨S_, .f32⟩
  | .hbm, ⟨16, _⟩ => ⟨S1x8x256, .f32⟩
  | .hbm, ⟨17, _⟩ => ⟨S1x8x256x1, .f32⟩
  | .hbm, ⟨18, _⟩ => ⟨S1x8x256x32768, .f32⟩
  | .hbm, ⟨19, _⟩ => ⟨S1x8x256x32768, .f32⟩
  | .hbm, ⟨20, _⟩ => ⟨S1x8x256x32768, .f32⟩
  | .hbm, ⟨21, _⟩ => ⟨S_, .f32⟩
  | .hbm, ⟨22, _⟩ => ⟨S1x8x256, .f32⟩
  | .hbm, ⟨23, _⟩ => ⟨S1x8x256x1, .f32⟩
  | .hbm, ⟨24, _⟩ => ⟨S1x8x128x256, .f32⟩
  | .hbm, ⟨25, _⟩ => ⟨S1x256x8x128, .f32⟩
  | .hbm, ⟨26, _⟩ => ⟨S1x256x8x1, .f32⟩
  | .hbm, ⟨27, _⟩ => ⟨S1x256x8x128, .f32⟩
  | .hbm, ⟨28, _⟩ => ⟨S1x256x8x128, .f32⟩
  | .hbm, ⟨29, _⟩ => ⟨S1x256x1024, .f32⟩
  | .hbm, ⟨30, _⟩ => ⟨S1x256x1024, .f32⟩
  | .hbm, ⟨31, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Ideal.Values.lean ====
/-
# What each device computes

The mesh has eight devices. Device `c` holds the queries `x`, the projections `Wq` and `Wo`, and its own 4096 keys and
values. `qv c` is its scaled queries; `numV c a h` and `lV c a h` are, for the 128 query rows of half `a` and the head
`h`, the sum over its own keys of exp(score) times value, and the sum of exp(score). `numT` and `denT` are the two tables
(row, column) that the kernel stores in its bf16 send buffer. Device `b` owns the 32 query rows of block `b`: it adds all
eight devices' tables on those rows, divides, projects with `Wo` (`outv b`), and sends the bf16 rounding `ostv b` to the
others. `outAll c` is the result that device `c` ends with.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KernelIdeal.Attn

open Cert.KernelIdeal Cert.KernelIdeal.Gen

open Idealize.ShloMosaic Idealize.ShloMosaic.ValueIdx
open Idealize.ShloMosaic.TcCoe

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: the device `r + 1` places up, and `r + 1` places down -/

set_option backward.proofsInPublic true in
/-- The device `r + 1` places up the ring. -/
def up (c : Dev nD) (r : Fin 7) : Dev nD := ⟨(c.val + r.val + 1) % 8, Nat.mod_lt _ (by decide)⟩
set_option backward.proofsInPublic true in
/-- The device `r + 1` places down the ring. -/
def dn (c : Dev nD) (r : Fin 7) : Dev nD := ⟨(c.val + (7 - r.val)) % 8, Nat.mod_lt _ (by decide)⟩

theorem dn_up (c : Dev nD) (r : Fin 7) : dn (up c r) r = c := by revert c r; decide
theorem up_dn (c : Dev nD) (r : Fin 7) : up (dn c r) r = c := by revert c r; decide

/-! ## The operands as the kernel's staging buffers hold them -/

def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def wostg (c : Dev nD) : (cc0_stg2_0 : Ref sig .tc).ty.Contents (Elt F) :=
  (win0_2.blk (0 : Fin 1)).view.read (Elt F) ((s₀ m ρ).mem ((c : Thread nD τ).loc main_arg4))
def kstg (c : Dev nD) : (cc0_stg3_0 : Ref sig .tc).ty.Contents (Elt F) :=
  (win0_3.blk (0 : Fin 1)).view.read (Elt F) ((s₀ m ρ).mem ((c : Thread nD τ).loc main_arg2))
def vstg (c : Dev nD) : (cc0_stg4_0 : Ref sig .tc).ty.Contents (Elt F) :=
  (win0_4.blk (0 : Fin 1)).view.read (Elt F) ((s₀ m ρ).mem ((c : Thread nD τ).loc main_arg3))

theorem inb_kv (g : Fin 2) : ∀ a, (![0, 0, g.val, 0] : Fin 4 → Nat) a + S1x4096x1x128.size a ≤ S1x4096x2x128.size a := by
  revert g; decide

/-- The rectangle of the keys (or values) of key head `g`. -/
abbrev kvRect (g : Fin 2) : Rect S1x4096x2x128 := Rect.unit (s := S1x4096x2x128) ![0, 0, g.val, 0] S1x4096x1x128.size (inb_kv g)

/-- The keys of key head `g` on device `c`, and the values. -/
def kv (c : Dev nD) (g : Fin 2) : Vec F S1x4096x1x128 .f32 :=
  (Memref.whole cc0_stg3_0 : Memref sig .tc .vmem S1x4096x2x128 .f32).view.readAt (Elt F) (kvRect g).toLoadRect (kstg m ρ c)
def vv (c : Dev nD) (g : Fin 2) : Vec F S1x4096x1x128 .f32 :=
  (Memref.whole cc0_stg4_0 : Memref sig .tc .vmem S1x4096x2x128 .f32).view.readAt (Elt F) (kvRect g).toLoadRect (vstg m ρ c)

/-! ## One device's partial attention -/

/-- The scaled queries, all heads side by side. -/
def qv (c : Dev nD) : FVec F S256x1024 .f32 := k0_pay1 (xstg m ρ c) (wqstg m ρ c)

theorem slices_q (a : Fin 2) (h : Fin 8) : S256x1024.Slices ![128 * a.val, 128 * h.val] S128x128 := by revert a h; decide

/-- The key head that query head `h` reads. -/
def kvHead (h : Fin 8) : Fin 2 := ⟨h.val / 4, by omega⟩

/-- exp(score) of the 128 rows of half `a` against one key head's 4096 keys, from the queries and those keys. -/
def expS (q : FVec F S256x1024 .f32) (k : Vec F S1x4096x1x128 .f32) (a : Fin 2) (h : Fin 8) : FVec F S128x4096 .f32 :=
  exp (matmul dot_S128x128_S4096x128_S128x4096_1_1_0_0_n_n none
    (extractStridedSlice S128x128 ![128 * a.val, 128 * h.val] q (slices_q a h))
    (shapeCast S4096x128 k shapeCasts_S1x4096x1x128_S4096x128) (constant S128x4096 .f32 0x00000000#32))

/-- The sum of exp(score) times value, rounded to bf16. -/
def numV (c : Dev nD) (a : Fin 2) (h : Fin 8) : FVec F S128x128 .bf16 :=
  shapeCast S128x128 (truncf .bf16 (matmul dot_S128x4096_S4096x128_S128x128_1_0_0_1_n_n none
    (expS (qv m ρ c) (kv m ρ c (kvHead h)) a h)
    (shapeCast S4096x128 (vv m ρ c (kvHead h)) shapeCasts_S1x4096x1x128_S4096x128) (constant S128x128 .f32 0x00000000#32)) bitsLt_bf16_f32)
    shapeCasts_S128x128_S128x128

/-- The sum of exp(score), one column. -/
def lV (c : Dev nD) (a : Fin 2) (h : Fin 8) : FVec F S128x1 .f32 :=
  shapeCast S128x1 (multiReduction .add [1] S128 (expS (qv m ρ c) (kv m ρ c (kvHead h)) a h) 0x00000000#32
    reduces_S128x4096_S128 (.inl rfl) rfl) shapeCasts_S128_S128x1

/-- The eight heads' sums of exp(score) of half `a`, side by side, rounded to bf16. -/
def lAll (c : Dev nD) (a : Fin 2) : FVec F S128x8 .bf16 :=
  k0_pay28 (lV m ρ c a 0) (lV m ρ c a 1) (lV m ρ c a 2) (lV m ρ c a 3) (lV m ρ c a 4) (lV m ρ c a 5) (lV m ρ c a 6) (lV m ρ c a 7)

/-- The table of numerators device `d` stores: rows the queries, columns the heads' features. -/
def numT (d : Dev nD) (i : Fin 256) (j : Fin 1024) : F .bf16 :=
  numV m ρ d ⟨i.val / 128, by omega⟩ ⟨j.val / 128, by omega⟩ (ix2 ⟨i.val % 128, by omega⟩ ⟨j.val % 128, by omega⟩)
/-- The table of the sums of exp(score): rows the queries, columns the heads. -/
def denT (d : Dev nD) (i : Fin 256) (h : Fin 8) : F .bf16 :=
  lAll m ρ d ⟨i.val / 128, by omega⟩ (ix2 ⟨i.val % 128, by omega⟩ h)

set_option backward.proofsInPublic true in
/-- Row `i` of the block of 32 rows that device `b` owns. -/
def rowOf (b : Dev nD) (i : Fin 32) : Fin 256 := ⟨32 * b.val + i.val, by have hb : b.val < 8 := b.isLt; omega⟩

/-- Device `d`'s numerators and sums on the rows of block `b`. -/
def numB (d b : Dev nD) : FVec F S32x1024 .bf16 := fun i => numT m ρ d (rowOf b (i 0)) (i 1)
def denB (d b : Dev nD) : FVec F S32x8 .bf16 := fun i => denT m ρ d (rowOf b (i 0)) (i 1)

/-! ## The sum over the devices, and the result -/

/-- Device `b`'s sum of all devices' numerators on its own rows, in the order the kernel adds them: its own, then the
    device one place up, two places up, ... -/
def sumN (b : Dev nD) : FVec F S32x1024 .f32 :=
  addf (addf (addf (addf (addf (addf (addf (extf .f32 (numB m ρ b b) bitsLt_bf16_f32) (extf .f32 (numB m ρ (up b 0) b) bitsLt_bf16_f32))
    (extf .f32 (numB m ρ (up b 1) b) bitsLt_bf16_f32)) (extf .f32 (numB m ρ (up b 2) b) bitsLt_bf16_f32))
    (extf .f32 (numB m ρ (up b 3) b) bitsLt_bf16_f32)) (extf .f32 (numB m ρ (up b 4) b) bitsLt_bf16_f32))
    (extf .f32 (numB m ρ (up b 5) b) bitsLt_bf16_f32)) (extf .f32 (numB m ρ (up b 6) b) bitsLt_bf16_f32)
/-- The same for the sums of exp(score). -/
def sumD (b : Dev nD) : FVec F S32x8 .f32 :=
  addf (addf (addf (addf (addf (addf (addf (extf .f32 (denB m ρ b b) bitsLt_bf16_f32) (extf .f32 (denB m ρ (up b 0) b) bitsLt_bf16_f32))
    (extf .f32 (denB m ρ (up b 1) b) bitsLt_bf16_f32)) (extf .f32 (denB m ρ (up b 2) b) bitsLt_bf16_f32))
    (extf .f32 (denB m ρ (up b 3) b) bitsLt_bf16_f32)) (extf .f32 (denB m ρ (up b 4) b) bitsLt_bf16_f32))
    (extf .f32 (denB m ρ (up b 5) b) bitsLt_bf16_f32)) (extf .f32 (denB m ρ (up b 6) b) bitsLt_bf16_f32)

/-- Block `b` of the result: the quotient projected with `Wo`. -/
def outv (b : Dev nD) : FVec F S32x1024 .f32 :=
  matmul dot_S32x1024_S1024x1024_S32x1024_1_0_0_1_n_n none
    (divf (sumN m ρ b) (shapeCast S32x1024 (broadcastTo S32x8x128
      (shapeCast S32x8x1 (shapeCast S32x8x1 (sumD m ρ b) shapeCasts_S32x8_S32x8x1) shapeCasts_S32x8x1_S32x8x1)
      broadcasts_S32x8x1_S32x8x128) shapeCasts_S32x8x128_S32x1024))
    (shapeCast S1024x1024 (wostg m ρ b) shapeCasts_S1024x1024_S1024x1024) (constant S32x1024 .f32 0x00000000#32)
/-- Its bf16 rounding, which the other devices receive. -/
def ostv (b : Dev nD) : FVec F S32x1024 .bf16 :=
  shapeCast S32x1024 (truncf .bf16 (outv m ρ b) bitsLt_bf16_f32) shapeCasts_S32x1024_S32x1024
/-- A received block, widened again. -/
def recvv (b : Dev nD) : FVec F S32x1024 .f32 := extf .f32 (ostv m ρ b) bitsLt_bf16_f32

/-- Block `b` of device `c`'s result. -/
def outB (c b : Dev nD) : FVec F S32x1024 .f32 := if b = c then outv m ρ c else recvv m ρ b

/-- The result device `c` ends with. -/
def outAll (c : Dev nD) : Vec F S256x1024 .f32 := fun i =>
  outB m ρ c ⟨(i 0).val / 32, by have h : (i 0).val < 256 := (i 0).isLt; show _ < 8; omega⟩
    (ix2 ⟨(i 0).val % 32, by omega⟩ (i 1))

end Cert.KernelIdeal.Attn
-- ==== Proof.Ideal.Proto.lean ====
/-
# The protocol between the eight devices

Each device signals the barrier semaphore of the seven others, handing each the two scratch slots that device will fill:
its slot `r` of the first exchange and its slot `r` of the second go to the device `r + 1` places up. After its barrier
wait for seven signals a device holds, for every `r`, slot `r` of both exchanges on the device `r + 1` places down. It
fills the first with 32 rows of its partial attention, the second with its 32 rows of the result.

The cells of a device are its barrier semaphore (`none`) and its four arrays of seven DMA semaphores (`some (j, r)`, with
`j` = 0 first send, 1 first receive, 2 second send, 3 second receive). Every cell has one round: the barrier seven duties of
one unit, a DMA cell the one duty of its transfer's credit.
-/
module

public import proofs.«01_k».proof.Proof.Ideal.Values

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S1x4096x2x128 .f32 := Memref.whole cc0_stg3_0
abbrev vM : Memref sig .tc .vmem S1x4096x2x128 .f32 := Memref.whole cc0_stg4_0
abbrev oM : Memref sig .tc .vmem S256x1024 .f32 := Memref.whole cc0_stg5_0
/-- The send buffer of the first exchange, the send buffer of the second, and the receive slots of both. -/
abbrev myM : Memref sig .tc .vmem S256x1152 .bf16 := Memref.whole cc0_scratch0
abbrev osM : Memref sig .tc .vmem S32x1024 .bf16 := Memref.whole cc0_scratch1
abbrev p1M : Memref sig .tc .vmem S7x32x1152 .bf16 := Memref.whole cc0_scratch2
abbrev p2M : Memref sig .tc .vmem S7x32x1024 .bf16 := Memref.whole cc0_scratch3

theorem inb_p1 (r : Fin 7) : ∀ a, (![r.val, 0, 0] : Fin 3 → Nat) a + S1x32x1152.size a ≤ S7x32x1152.size a := by revert r; decide
theorem inb_p2 (r : Fin 7) : ∀ a, (![r.val, 0, 0] : Fin 3 → Nat) a + S1x32x1024.size a ≤ S7x32x1024.size a := by revert r; decide
theorem inb_blk (b : Dev nD) : ∀ a, (![32 * b.val, 0] : Fin 2 → Nat) a + S32x1152.size a ≤ S256x1152.size a := by revert b; decide
theorem inb_sem (r : Fin 7) : ∀ a, (![r.val] : Fin 1 → Nat) a + S1.size a ≤ S7.size a := by revert r; decide

/-- Slot `r` of the first exchange, and of the second; the 32 rows of the send buffer that device `b` owns. -/
abbrev p1R (r : Fin 7) : Rect S7x32x1152 := Rect.unit (s := S7x32x1152) ![r.val, 0, 0] S1x32x1152.size (inb_p1 r)
abbrev p2R (r : Fin 7) : Rect S7x32x1024 := Rect.unit (s := S7x32x1024) ![r.val, 0, 0] S1x32x1024.size (inb_p2 r)
abbrev blkR (b : Dev nD) : Rect S256x1152 := Rect.unit (s := S256x1152) ![32 * b.val, 0] S32x1152.size (inb_blk b)
abbrev p1S (r : Fin 7) : Memref sig .tc .vmem S32x1152 .bf16 := (p1M.slice (p1R r) (fun _ => rfl)).squeeze S32x1152 squeezes_S1x32x1152_S32x1152
abbrev p2S (r : Fin 7) : Memref sig .tc .vmem S32x1024 .bf16 := (p2M.slice (p2R r) (fun _ => rfl)).squeeze S32x1024 squeezes_S1x32x1024_S32x1024
abbrev blkM (b : Dev nD) : Memref sig .tc .vmem S32x1152 .bf16 := myM.slice (blkR b) (fun _ => rfl)

/-! ## The cells -/

/-- The barrier semaphore, and semaphore `r` of array `j`. -/
abbrev barS : Sem sig := (SemArray.scalar (sig.barrier 0 rfl) : Sems sig S_).sem
abbrev semArr : Fin 4 → DmaSems sig S7 := fun | 0 => cc0_scratch4 | 1 => cc0_scratch5 | 2 => cc0_scratch6 | 3 => cc0_scratch7
abbrev dsem (j : Fin 4) (r : Fin 7) : DmaSem sig :=
  (((semArr j).slice (Rect.unit (s := S7) ![r.val] S1.size (inb_sem r))).squeeze S_ squeezes_S1_S_).sem

/-- A device's cells: its barrier semaphore and its 28 DMA semaphores. -/
abbrev Kind : Type := Option (Fin 4 × Fin 7)
def csem : Kind → SemLoc sig
  | none => .reg barS
  | some jr => .dma (dsem jr.1 jr.2)
abbrev kcell (ck : Dev nD × Kind) : GSem nD τ sig := ((ck.1 : Thread nD τ), csem ck.2)
abbrev barCell (c : Dev nD) : GSem nD τ sig := ((c : Thread nD τ), .reg barS)
abbrev dCell (j : Fin 4) (c : Dev nD) (r : Fin 7) : GSem nD τ sig := ((c : Thread nD τ), .dma (dsem j r))

/-- Semaphore `r` of array `j` is the DMA semaphore of number `6 + 7 j + r`. -/
theorem dsem_val (j : Fin 4) (r : Fin 7) : (dsem j r).val = 6 + 7 * j.val + r.val := by revert j r; decide +kernel
theorem csem_injective : Function.Injective csem := by
  rintro (_ | ⟨j, r⟩) (_ | ⟨j', r'⟩) h
  · rfl
  · exact absurd h (fun h => by cases h)
  · exact absurd h (fun h => by cases h)
  · have h1 : dsem j r = dsem j' r' := SemLoc.dma.inj h
    have h2 := congrArg Fin.val h1
    rw [dsem_val, dsem_val] at h2
    have hj : j = j' := Fin.ext (by omega)
    have hr : r = r' := Fin.ext (by omega)
    rw [hj, hr]

/-- Which cell a semaphore is, if it is one of these. -/
def kindOf (s : SemLoc sig) : Option Kind := Function.partialInv csem s
theorem kindOf_csem (k : Kind) : kindOf (csem k) = some k := Function.partialInv_left csem_injective k
theorem kindOf_bar : kindOf (.reg barS) = some none := kindOf_csem none
theorem kindOf_dma (j : Fin 4) (r : Fin 7) : kindOf (.dma (dsem j r)) = some (some (j, r)) := kindOf_csem (some (j, r))

/-- The credit of one transfer of the first exchange, and of the second. -/
abbrev N1 : ℕ := (p1S 0).view.dmaCredit
abbrev N2 : ℕ := (p2S 0).view.dmaCredit
theorem N1_pos : 0 < N1 := View.dmaCredit_pos _ (by decide)
theorem N2_pos : 0 < N2 := View.dmaCredit_pos _ (by decide)
theorem p1S_credit (r : Fin 7) : (p1S r).view.dmaCredit = N1 := rfl
theorem p2S_credit (r : Fin 7) : (p2S r).view.dmaCredit = N2 := rfl
def Nof (j : Fin 4) : ℕ := if j.val < 2 then N1 else N2
theorem Nof_pos (j : Fin 4) : 0 < Nof j := by unfold Nof; split; exacts [N1_pos, N2_pos]

/-! ## What a device holds, piece by piece -/

/-- The share of the second send buffer that transfer `r` reads. -/
def shr (r : Fin 7) : PosShare TreeShare := Transfers.dealOf fullShare (Finset.univ : Finset (Fin 7)) r

def p1Pts (e : Dev nD) (r : Fin 7) (f : Buf (Elt F) ((p1S r).view.loc (e : Thread nD τ))) : sProp 𝕄 :=
  (p1S r).view.loc (e : Thread nD τ) ↦[(p1S r).view.set]{fullShare} f
def p2Pts (e : Dev nD) (r : Fin 7) (f : Buf (Elt F) ((p2S r).view.loc (e : Thread nD τ))) : sProp 𝕄 :=
  (p2S r).view.loc (e : Thread nD τ) ↦[(p2S r).view.set]{fullShare} f
def blkPts (c b : Dev nD) (f : Buf (Elt F) ((blkM b).view.loc (c : Thread nD τ))) : sProp 𝕄 :=
  (blkM b).view.loc (c : Thread nD τ) ↦[(blkM b).view.set]{fullShare} f
/-- The second send buffer's contents, and the share of it that transfer `r` reads. -/
def ostC (c : Dev nD) : Buf (Elt F) ((osM : Memref sig .tc .vmem S32x1024 .bf16).view.loc (c : Thread nD τ)) := ostv m ρ c
def osPts (c : Dev nD) (r : Fin 7) : sProp 𝕄 :=
  (osM : Memref sig .tc .vmem S32x1024 .bf16).view.loc (c : Thread nD τ) ↦[(osM : Memref sig .tc .vmem S32x1024 .bf16).view.set]{shr r} ostC m ρ c

/-- A block of 32 rows holds device `d`'s tables on the rows of block `b` (in its first 1032 columns). -/
def Blk (d b : Dev nD) (v : Vec F S32x1152 .bf16) : Prop :=
  extractStridedSlice S32x1024 ![0, 0] v slices_S32x1152_o0_0_S32x1024 = numB m ρ d b
    ∧ extractStridedSlice S32x8 ![0, 1024] v slices_S32x1152_o0_1024_S32x8 = denB m ρ d b

/-- Block `b` of device `c`'s send buffer, filled. -/
def blkFull (c b : Dev nD) : sProp 𝕄 := iprop(∃ f, ⌜Blk m ρ c b ((blkM b).view.read (Elt F) f)⌝ ∗ blkPts c b f)
/-- Slot `r` of the first exchange on device `e`, filled by the device `r + 1` places up. -/
def p1Full (e : Dev nD) (r : Fin 7) : sProp 𝕄 := iprop(∃ f, ⌜Blk m ρ (up e r) e ((p1S r).view.read (Elt F) f)⌝ ∗ p1Pts e r f)
/-- Slot `r` of the second exchange on device `e`, filled likewise. -/
def p2Full (e : Dev nD) (r : Fin 7) : sProp 𝕄 := iprop(∃ f, ⌜(p2S r).view.read (Elt F) f = ostv m ρ (up e r)⌝ ∗ p2Pts e r f)

/-- What the signal of the device `r + 1` places down hands device `c`: that device's two slots `r`. -/
def barPay (c : Dev nD) (r : Fin 7) : sProp 𝕄 := iprop((∃ f, p1Pts (F := F) (dn c r) r f) ∗ (∃ f, p2Pts (F := F) (dn c r) r f))
/-- What the one duty of DMA cell `(j, r)` hands device `c`. -/
def dmaPay (c : Dev nD) (j : Fin 4) (r : Fin 7) : sProp 𝕄 :=
  match j with
  | 0 => iprop(∃ f, blkPts (F := F) c (dn c r) f)
  | 1 => p1Full m ρ c r
  | 2 => osPts m ρ c r
  | 3 => p2Full m ρ c r

omit [FloatOps F] in
instance p1Pts_storable (c : Dev nD) (r) (f) : BI.Storable (upEmb : UEmb _ 𝕄) (p1Pts (F := F) c r f) := by unfold p1Pts; infer_instance
omit [FloatOps F] in
instance p2Pts_storable (c : Dev nD) (r) (f) : BI.Storable (upEmb : UEmb _ 𝕄) (p2Pts (F := F) c r f) := by unfold p2Pts; infer_instance
omit [FloatOps F] in
instance blkPts_storable (c b : Dev nD) (f) : BI.Storable (upEmb : UEmb _ 𝕄) (blkPts (F := F) c b f) := by unfold blkPts; infer_instance
instance osPts_storable (c : Dev nD) (r) : BI.Storable (upEmb : UEmb _ 𝕄) (osPts (F := F) m ρ c r) := by unfold osPts; infer_instance
instance p1Full_storable (c : Dev nD) (r) : BI.Storable (upEmb : UEmb _ 𝕄) (p1Full (F := F) m ρ c r) := by unfold p1Full; infer_instance
instance p2Full_storable (c : Dev nD) (r) : BI.Storable (upEmb : UEmb _ 𝕄) (p2Full (F := F) m ρ c r) := by unfold p2Full; infer_instance
omit [FloatOps F] in
instance barPay_storable (c : Dev nD) (r) : BI.Storable (upEmb : UEmb _ 𝕄) (barPay (F := F) c r) := by unfold barPay; infer_instance
instance dmaPay_storable (c : Dev nD) (j) (r) : BI.Storable (upEmb : UEmb _ 𝕄) (dmaPay (F := F) m ρ c j r) := by
  unfold dmaPay; split <;> infer_instance

/-! ## The schedule -/

def kDuties : Option Kind → Finset (Fin 7)
  | none => ∅
  | some none => Finset.univ
  | some (some _) => {0}
def kAmount : Option Kind → ℕ
  | none => 1
  | some none => 1
  | some (some jr) => Nof jr.1
def kPay (c : Dev nD) (d : Fin 7) : Option Kind → sProp 𝕄
  | none => iprop(emp)
  | some none => barPay c d
  | some (some jr) => dmaPay m ρ c jr.1 jr.2

/-- One round, round 0, of every cell. -/
def sched : Rounds.Schedule (GSem nD τ sig) (Fin 7) 𝕄 where
  duties g r := if r = 0 ∧ g.1.2 = .tc then kDuties (kindOf g.2) else ∅
  unitless _ := False
  amount g _ _ := kAmount (kindOf g.2)
  payload g _ d := kPay m ρ g.1.1 d (kindOf g.2)
  amount_pos g _ _ _ := by
    rcases h : kindOf g.2 with _ | _ | jr
    · exact Nat.one_pos
    · exact Nat.one_pos
    · exact Nof_pos _

instance sched_payload_storable (g : GSem nD τ sig) (r : ℕ) (d : Fin 7) :
    BI.Storable (upEmb : UEmb _ 𝕄) ((sched (F := F) m ρ).payload g r d) := by
  show BI.Storable upEmb (kPay m ρ g.1.1 d (kindOf g.2))
  rcases kindOf g.2 with _ | _ | jr
  · show BI.Storable upEmb (iprop(emp) : sProp 𝕄); infer_instance
  · exact barPay_storable _ _
  · exact dmaPay_storable m ρ _ _ _

section Sched
variable (c : Dev nD) (j : Fin 4) (r d : Fin 7)

theorem duties_bar : (sched (F := F) m ρ).duties (barCell c) 0 = Finset.univ := by
  dsimp only [sched]; rw [if_pos ⟨rfl, rfl⟩, kindOf_bar]; rfl
theorem duties_dma : (sched (F := F) m ρ).duties (dCell j c r) 0 = {0} := by
  dsimp only [sched]; rw [if_pos ⟨rfl, rfl⟩, kindOf_dma]; rfl
theorem duties_later (g : GSem nD τ sig) : ∀ r, 1 ≤ r → (sched (F := F) m ρ).duties g r = ∅ :=
  fun r hr => by dsimp only [sched]; rw [if_neg fun h => by omega]
theorem amount_bar : (sched (F := F) m ρ).amount (barCell c) 0 d = 1 := by dsimp only [sched]; rw [kindOf_bar]; rfl
theorem amount_dma : (sched (F := F) m ρ).amount (dCell j c r) 0 d = Nof j := by dsimp only [sched]; rw [kindOf_dma]; rfl
theorem payload_bar : (sched (F := F) m ρ).payload (barCell c) 0 d = barPay c d := by dsimp only [sched]; rw [kindOf_bar]; rfl
theorem payload_dma : (sched (F := F) m ρ).payload (dCell j c r) 0 d = dmaPay m ρ c j r := by dsimp only [sched]; rw [kindOf_dma]; rfl
theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_dma : (sched (F := F) m ρ).expect (dCell j c r) 0 = Nof j := by
  unfold Schedule.expect Schedule.amountOf; rw [duties_dma, Finset.sum_singleton, amount_dma]
theorem rest_bar : bigSep ((sched (F := F) m ρ).duties (barCell c) 0 \ ∅) (fun d => (sched (F := F) m ρ).payload (barCell c) 0 d)
    = bigSep Finset.univ (fun d => barPay (F := F) c d) := by
  rw [Finset.sdiff_empty, duties_bar]; exact bigSep_congr fun d _ => payload_bar m ρ c d
theorem rest_dma : bigSep ((sched (F := F) m ρ).duties (dCell j c r) 0 \ ∅) (fun d => (sched (F := F) m ρ).payload (dCell j c r) 0 d)
    = dmaPay m ρ c j r := by
  rw [Finset.sdiff_empty, duties_dma, bigSep_singleton, payload_dma]

end Sched

/-! ## What each device owes at launch; the levels -/

/-- What device `c` owes for the first exchange over the transfers in `s`, for the second, and for its signals. -/
def owe1 (c : Dev nD) (s : Finset (Fin 7)) : CellTallies nD τ sig Unit := ∑ r ∈ s, tallyAt (dCell 1 (dn c r) r) () N1
def owe2 (c : Dev nD) (s : Finset (Fin 7)) : CellTallies nD τ sig Unit := ∑ r ∈ s, tallyAt (dCell 3 (dn c r) r) () N2
def oweB (c : Dev nD) (s : Finset (Fin 7)) : CellTallies nD τ sig Unit := ∑ r ∈ s, tallyAt (barCell (up c r)) () 1
/-- All of it. -/
def owing (c : Dev nD) (sb s1 s2 : Finset (Fin 7)) : CellTallies nD τ sig Unit := oweB c sb + owe1 c s1 + owe2 c s2
def O₀ (c : Dev nD) : CellTallies nD τ sig Unit := owing c Finset.univ Finset.univ Finset.univ

theorem owe1_erase (c : Dev nD) (s : Finset (Fin 7)) (r : Fin 7) (h : r ∈ s) :
    owe1 c s = owe1 c (s.erase r) + tallyAt (dCell 1 (dn c r) r) () N1 := (Finset.sum_erase_add s _ h).symm
theorem owe2_erase (c : Dev nD) (s : Finset (Fin 7)) (r : Fin 7) (h : r ∈ s) :
    owe2 c s = owe2 c (s.erase r) + tallyAt (dCell 3 (dn c r) r) () N2 := (Finset.sum_erase_add s _ h).symm
theorem oweB_erase (c : Dev nD) (s : Finset (Fin 7)) (r : Fin 7) (h : r ∈ s) :
    oweB c s = oweB c (s.erase r) + tallyAt (barCell (up c r)) () 1 := (Finset.sum_erase_add s _ h).symm

theorem owing_eraseB (c : Dev nD) (sb s1 s2 : Finset (Fin 7)) (r : Fin 7) (h : r ∈ sb) :
    owing c sb s1 s2 = owing c (sb.erase r) s1 s2 + tallyAt (barCell (up c r)) () 1 := by
  unfold owing; rw [oweB_erase c sb r h]; abel
theorem owing_erase1 (c : Dev nD) (sb s1 s2 : Finset (Fin 7)) (r : Fin 7) (h : r ∈ s1) :
    owing c sb s1 s2 = owing c sb (s1.erase r) s2 + tallyAt (dCell 1 (dn c r) r) () N1 := by
  unfold owing; rw [owe1_erase c s1 r h]; abel
theorem owing_erase2 (c : Dev nD) (sb s1 s2 : Finset (Fin 7)) (r : Fin 7) (h : r ∈ s2) :
    owing c sb s1 s2 = owing c sb s1 (s2.erase r) + tallyAt (dCell 3 (dn c r) r) () N2 := by
  unfold owing; rw [owe2_erase c s2 r h]; abel

def L (g : GSem nD τ sig) : Finset Unit := if g.1.2 = .tc then {()} else ∅
/-- The barrier at 1, the first exchange's receives at 2, the second's at 3, everything else at 0. -/
def kLev : Option Kind → ℕ
  | none => 0
  | some none => 1
  | some (some jr) => if jr.1 = 1 then 2 else if jr.1 = 3 then 3 else 0
def lv (g : GSem nD τ sig) (_ : Unit) : ℕ := kLev (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem sum_pos_cell {ι : Type} [DecidableEq ι] {s : Finset ι} {G : ι → GSem nD τ sig} {n : ℕ} {g : GSem nD τ sig} {u : Unit}
    (h : 0 < (∑ r ∈ s, (tallyAt (G r) () n : CellTallies nD τ sig Unit)) g u) : ∃ r ∈ s, g = G r := by
  rw [Finset.sum_apply, Finsupp.finset_sum_apply] at h
  obtain ⟨r, hr, hp⟩ := Finset.exists_ne_zero_of_sum_ne_zero (Nat.pos_iff_ne_zero.mp h)
  refine ⟨r, hr, ?_⟩
  by_contra hn
  exact hp (by rw [tallyAt_apply, if_neg fun h' => hn h'.1])

theorem owing_pos {c : Dev nD} {sb s1 s2 : Finset (Fin 7)} {g : GSem nD τ sig} {u : Unit} (h : 0 < owing c sb s1 s2 g u) :
    (∃ r ∈ sb, g = barCell (up c r)) ∨ (∃ r ∈ s1, g = dCell 1 (dn c r) r) ∨ (∃ r ∈ s2, g = dCell 3 (dn c r) r) := by
  unfold owing at h
  rw [Pi.add_apply, Finsupp.add_apply, Pi.add_apply, Finsupp.add_apply] at h
  by_cases h1 : 0 < oweB c sb g u
  · exact .inl (sum_pos_cell h1)
  by_cases h2 : 0 < owe1 c s1 g u
  · exact .inr (.inl (sum_pos_cell h2))
  · exact .inr (.inr (sum_pos_cell (by omega : 0 < owe2 c s2 g u)))

theorem lv_bar (c : Dev nD) (u : Unit) : lv (barCell c) u = 1 := by unfold lv; rw [kindOf_bar]; rfl
theorem lv_dma (j : Fin 4) (c : Dev nD) (r : Fin 7) (u : Unit) : lv (dCell j c r) u = if j = 1 then 2 else if j = 3 then 3 else 0 := by
  unfold lv; rw [kindOf_dma]; rfl

omit [FloatOps F] in
/-- A wait at a cell of level `n` is allowed while everything owed lies above `n`. -/
theorem mayWait_lv (c : Dev nD) (sm : SemLoc sig) (n : ℕ) (hsm : kLev (kindOf sm) ≤ n) (sb s1 s2 : Finset (Fin 7))
    (hb : sb = ∅ ∨ n < 1) (h1 : s1 = ∅ ∨ n < 2) (h2 : s2 = ∅ ∨ n < 3) :
    (levAts L lv : sProp 𝕄) ⊢ MayWait (c : Thread nD τ) sm () (owing c sb s1 s2) := by
  refine MayOwe.of_cut (L := L) (lev := lv) n (fun p hp => by rw [Finset.mem_singleton.mp hp, L_tc]; exact Finset.mem_singleton_self _)
    (fun g u hg => ?_) (fun p hp => by rw [Finset.mem_singleton.mp hp]; exact hsm) (fun g u hg => ?_)
  · rcases owing_pos hg with ⟨r, _, rfl⟩ | ⟨r, _, rfl⟩ | ⟨r, _, rfl⟩ <;> exact Finset.mem_singleton_self _
  · rcases owing_pos hg with ⟨r, hr, rfl⟩ | ⟨r, hr, rfl⟩ | ⟨r, hr, rfl⟩
    · rw [lv_bar]
      exact hb.resolve_left fun h => by rw [h] at hr; exact absurd hr (Finset.notMem_empty _)
    · rw [lv_dma]
      exact h1.resolve_left fun h => by rw [h] at hr; exact absurd hr (Finset.notMem_empty _)
    · rw [lv_dma]
      exact h2.resolve_left fun h => by rw [h] at hr; exact absurd hr (Finset.notMem_empty _)

/-! ## The shared facts -/

/-- Every cell's invariant, under the names `K` the launch allocated them at, that every cell has reached round 0, and the levels. -/
def recs (K : Dev nD × Kind → ℕ) : sProp 𝕄 :=
  iprop((bigSep Finset.univ fun ck : Dev nD × Kind => cellInv ER (sched m ρ) (K ck) (kcell ck))
    ∗ (bigSep Finset.univ fun ck : Dev nD × Kind => reached ER (kcell ck) 0) ∗ levAts L lv)

instance recs_persistent (K : Dev nD × Kind → ℕ) : BI.Persistent (recs m ρ K) := by unfold recs; infer_instance

theorem recs_inv (K : Dev nD × Kind → ℕ) (ck : Dev nD × Kind) : recs m ρ K ⊢ cellInv ER (sched m ρ) (K ck) (kcell ck) := by
  unfold recs
  exact sep_elim_left.trans (bigSep_elim (Φ := fun ck : Dev nD × Kind => (cellInv ER (sched m ρ) (K ck) (kcell ck) : sProp 𝕄)) (Finset.mem_univ ck))
theorem recs_reached (K : Dev nD × Kind → ℕ) (ck : Dev nD × Kind) : recs m ρ K ⊢ reached ER (kcell ck) 0 := by
  unfold recs
  exact sep_elim_right.trans (sep_elim_left.trans
    (bigSep_elim (Φ := fun ck : Dev nD × Kind => (reached ER (kcell ck) 0 : sProp 𝕄)) (Finset.mem_univ ck)))
theorem recs_lev (K : Dev nD × Kind → ℕ) : recs m ρ K ⊢ levAts L lv := by
  unfold recs; iintro ⟨-, -, H⟩; iexact H

end Cert.KernelIdeal.Attn
-- ==== Proof.Ideal.Steps.lean ====
/-
# One step of the protocol at a time

Each lemma takes one effect of the kernel on symbolic device `c` and moves one transfer `r` of a family of seven from what
is held before the effect to what is held after it. The families: the signals, the sends and the receives of the first
exchange, those of the second, and the waits for the sends at the end.
-/
module

public import proofs.«01_k».proof.Proof.Ideal.Proto

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)
variable (K : Dev nD × Kind → ℕ) (c : Dev nD)

/-- The weakest precondition of a piece of the kernel's body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## A family of seven, part before its step and part after -/

/-- Transfers in `s` are at `A`, the others at `B`. -/
def prog (s : Finset (Fin 7)) (A B : Fin 7 → sProp 𝕄) : sProp 𝕄 := bigSep Finset.univ fun r => if r ∈ s then A r else B r

omit [FloatOps F] in
theorem prog_univ (A B : Fin 7 → sProp 𝕄) : prog Finset.univ A B = bigSep Finset.univ A :=
  bigSep_congr fun r _ => if_pos (Finset.mem_univ r)
omit [FloatOps F] in
theorem prog_empty (A B : Fin 7 → sProp 𝕄) : prog ∅ A B = bigSep Finset.univ B :=
  bigSep_congr fun r _ => if_neg (Finset.notMem_empty r)

omit [FloatOps F] in
/-- Taking transfer `r` out before its step and putting it back after. -/
theorem prog_take {s s' : Finset (Fin 7)} (A B : Fin 7 → sProp 𝕄) (r : Fin 7) (hr : r ∈ s) (hs : s.erase r = s') :
    prog s A B ⊢ iprop(A r ∗ (B r -∗ prog s' A B)) := by
  subst hs
  have hrest : bigSep (Finset.univ.erase r) (fun r' => if r' ∈ s then A r' else B r')
      = bigSep (Finset.univ.erase r) (fun r' => if r' ∈ s.erase r then A r' else B r') := bigSep_congr fun r' hr' => by
    by_cases h : r' ∈ s
    · rw [if_pos h, if_pos (Finset.mem_erase.mpr ⟨Finset.ne_of_mem_erase hr', h⟩)]
    · rw [if_neg h, if_neg fun h' => h (Finset.mem_of_mem_erase h')]
  have h1 : prog s A B = iprop(A r ∗ bigSep (Finset.univ.erase r) (fun r' => if r' ∈ s then A r' else B r')) := by
    unfold prog; rw [bigSep_erase (Finset.mem_univ r), if_pos hr]; rfl
  have h2 : prog (s.erase r) A B = iprop(B r ∗ bigSep (Finset.univ.erase r) (fun r' => if r' ∈ s.erase r then A r' else B r')) := by
    unfold prog; rw [bigSep_erase (Finset.mem_univ r), if_neg (Finset.notMem_erase r s)]; rfl
  rw [h1, h2, hrest]
  iintro ⟨HA, H⟩
  isplitl [HA]; · iexact HA
  iintro HB
  isplitl [HB]; · iexact HB
  iexact H

/-! ## What each family holds -/

/-- What the device owes, whatever waits it has recorded. -/
def ow (O : CellTallies nD τ sig Unit) : sProp 𝕄 := iprop(∃ W, owes (c : Thread nD τ) O W)

def sigA (r : Fin 7) : sProp 𝕄 :=
  iprop(dutyTok ER (barCell (up c r)) 0 r ∗ (∃ f, p1Pts (F := F) c r f) ∗ (∃ f, p2Pts (F := F) c r f))
def sigB (_ : Fin 7) : sProp 𝕄 := iprop(emp)
/-- A send of the first exchange: before, the two duty tokens and the slot on the target. -/
def s1A (r : Fin 7) : sProp 𝕄 :=
  iprop((dutyTok ER (dCell 0 c r) 0 0 ∗ dutyTok ER (dCell 1 (dn c r) r) 0 0) ∗ ∃ f, p1Pts (F := F) (dn c r) r f)
def s1B (r : Fin 7) : sProp 𝕄 := iprop(cred (tallyAt (dCell 0 c r) () N1))
/-- A send of the second exchange: the same and its share of the send buffer. -/
def s2A (r : Fin 7) : sProp 𝕄 :=
  iprop((dutyTok ER (dCell 2 c r) 0 0 ∗ dutyTok ER (dCell 3 (dn c r) r) 0 0) ∗ (∃ f, p2Pts (F := F) (dn c r) r f) ∗ osPts m ρ c r)
def s2B (r : Fin 7) : sProp 𝕄 := iprop(cred (tallyAt (dCell 2 c r) () N2))
/-- A wait: before, the credit and the position; after, the closed counter and what the transfer brought. -/
def wA (j : Fin 4) (r : Fin 7) : sProp 𝕄 := iprop(cred (tallyAt (dCell j c r) () (Nof j)) ∗ atPos ER (dCell j c r) 0 ∅ 0)
def wB (j : Fin 4) (r : Fin 7) : sProp 𝕄 := iprop(semVal (dCell j c r) 0 ∗ dmaPay m ρ c j r)
/-- A receive, after its slot has been read too. -/
def rB (j : Fin 4) (r : Fin 7) : sProp 𝕄 :=
  iprop(semVal (dCell j c r) 0 ∗ if j = 1 then iprop(∃ f, p1Pts (F := F) c r f) else iprop(∃ f, p2Pts (F := F) c r f))

/-! ## The barrier -/

/-- Signal `r`: the slots `r` go to the device `r + 1` places up. -/
theorem wp_sig (r : Fin 7) {s s' : Finset (Fin 7)} (s1 s2 : Finset (Fin 7)) (hr : r ∈ s) (hs : s.erase r = s') (n : Dev nD) (hn : n = up c r)
    {α : Type} {Q : α → sProp 𝕄} {k : PUnit → Prog (TpuEff nD τ sig (Elt F) Λ₀ .tc) α} :
    iprop(recs m ρ K ∗ ow c (owing c s s1 s2) ∗ prog s (sigA (F := F) c) (sigB (F := F)))
      ⊢ iprop(((ow c (owing c s' s1 s2) ∗ prog s' (sigA (F := F) c) (sigB (F := F))) -∗ WP c (k ⟨⟩) Q)
          -∗ WP c (.op (.semSignal (n : Thread nD τ) barS 1) k) Q) := by
  subst hn
  iintro ⟨#HR, HO, HP⟩ Hk
  ihave #HI := (recs_inv m ρ K (up c r, none)) $$ HR
  ihave #Hr := (recs_reached m ρ K (up c r, none)) $$ HR
  ihave HP := (prog_take (sigA (F := F) c) (sigB (F := F)) r hr hs) $$ HP
  unfold sigA sigB ow
  icases HP with ⟨⟨Ht, H1, H2⟩, HP⟩
  icases HO with ⟨%W, HO⟩
  iapply (Rounds.wp_signal 𝒱₀ ER (sched m ρ) (c : Thread nD τ) none (dst := ((up c r : Dev nD) : Thread nD τ)) (κ := K (up c r, none))
      (d := r) (by rw [duties_bar]; exact Finset.mem_univ _) (amount_bar m ρ (up c r) r) () (owing c s' s1 s2)
      ((owing_eraseB c s s1 s2 r hr).trans (by rw [hs]))) $$ [HO Ht H1 H2]
  · isplitr; · iexact HI
    isplitl [HO]; · iexact HO
    isplitl [Ht]; · iexact Ht
    isplitl [H1 H2]
    · rw [payload_bar]; unfold barPay; rw [dn_up]
      isplitl [H1]; · iexact H1
      iexact H2
    · iexact Hr
  iintro HO
  iapply Hk
  isplitl [HO]; · iexists W; iexact HO
  iapply HP
  iempintro

/-- The wait for the seven signals: every device's slots for this one. -/
theorem wp_barwait (s1 s2 : Finset (Fin 7)) {α : Type} {Q : α → sProp 𝕄} {k : PUnit → Prog (TpuEff nD τ sig (Elt F) Λ₀ .tc) α} :
    iprop(recs m ρ K ∗ ow c (owing c ∅ s1 s2) ∗ cred (tallyAt (barCell c) () 7) ∗ atPos ER (barCell c) 0 ∅ 0)
      ⊢ iprop(((ow c (owing c ∅ s1 s2) ∗ semVal (barCell c) 0 ∗ bigSep Finset.univ (fun r => barPay (F := F) c r)) -∗ WP c (k ⟨⟩) Q)
          -∗ WP c (.op (.semWait barS 7) k) Q) := by
  iintro ⟨#HR, HO, Hc, Hat⟩ Hk
  ihave #HI := (recs_inv m ρ K (c, none)) $$ HR
  ihave #Hlev := (recs_lev m ρ K) $$ HR
  unfold ow
  icases HO with ⟨%W, HO⟩
  iapply (Rounds.wp_wait_rest_token 𝒱₀ ER (sched m ρ) (c : Thread nD τ) none (κ := K (c, none))
      (wpE_semWait_eq 𝒱₀ (c : Thread nD τ) none Set.univ) (Set.mem_univ _) () (O := owing c ∅ s1 s2) (W := W) (R := 0) (m := 0) (T := ∅)
      (by rw [expect_bar])) $$ [HO Hc Hat]
  · isplitr; · iexact HI
    isplitl [Hc]; · iexact Hc
    isplitl [HO]; · iexact HO
    isplitr
    · iapply (mayWait_lv (F := F) c (.reg barS) 1 (by rw [kindOf_bar]; exact le_refl _) ∅ s1 s2 (.inl rfl) (.inr (by decide)) (.inr (by decide))); iexact Hlev
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-! ## The waits for a transfer -/

/-- The wait on DMA cell `(j, r)`: the cell closes and its payload is the device's. -/
theorem wp_dwait (j : Fin 4) (r : Fin 7) {s s' : Finset (Fin 7)} (s1 s2 : Finset (Fin 7)) (hr : r ∈ s) (hs : s.erase r = s')
    (h1 : s1 = ∅) (h2 : s2 = ∅ ∨ j = 1)
    {sp sp' : Space} {sh sh' : Shape} {e e' : EltTy} (sem : DmaSem sig) (hsem : sem = dsem j r) (src : Memref sig .tc sp sh e) (dst : Memref sig .tc sp' sh' e')
    (hcr : dst.view.dmaCredit = Nof j) {hsrc : src.view.WordExact} {hdst : dst.view.WordExact}
    {α : Type} {Q : α → sProp 𝕄} {k : PUnit → Prog (TpuEff nD τ sig (Elt F) Λ₀ .tc) α} (B : Fin 7 → sProp 𝕄) :
    iprop(recs m ρ K ∗ ow c (owing c ∅ s1 s2) ∗ prog s (wA (F := F) c j) B)
      ⊢ iprop(((ow c (owing c ∅ s1 s2) ∗ wB m ρ c j r ∗ (B r -∗ prog s' (wA (F := F) c j) B)) -∗ WP c (k ⟨⟩) Q)
          -∗ WP c (.op (.waitDma2 sem src dst hsrc hdst) k) Q) := by
  subst hsem h1
  iintro ⟨#HR, HO, HP⟩ Hk
  ihave #HI := (recs_inv m ρ K (c, some (j, r))) $$ HR
  ihave #Hlev := (recs_lev m ρ K) $$ HR
  ihave HP := (prog_take (wA (F := F) c j) B r hr hs) $$ HP
  unfold wA wB ow
  icases HP with ⟨⟨Hc, Hat⟩, HP⟩
  icases HO with ⟨%W, HO⟩
  iapply (Rounds.wp_wait_rest_token 𝒱₀ ER (sched m ρ) (c : Thread nD τ) none (κ := K (c, some (j, r))) (sm := .dma (dsem j r)) (k' := dst.view.dmaCredit)
      (wpE_waitDma2_eq 𝒱₀ (c : Thread nD τ) none Set.univ) (Set.mem_univ _) () (O := owing c ∅ ∅ s2) (W := W) (R := 0) (m := 0) (T := ∅)
      (by rw [hcr, Nat.zero_add]; exact (expect_dma m ρ c j r).symm)) $$ [HO Hc Hat]
  · isplitr; · iexact HI
    isplitl [Hc]; · rw [hcr]; iexact Hc
    isplitl [HO]; · iexact HO
    isplitr
    · iapply (mayWait_lv (F := F) c (.dma (dsem j r)) (if j = 1 then 2 else 3)
        (by rw [kindOf_dma]; show (if j = 1 then 2 else if j = 3 then 3 else 0) ≤ _; split_ifs <;> omega)
        ∅ ∅ s2 (.inl rfl) (.inl rfl) (h2.imp id fun h => by rw [if_pos h]; decide)); iexact Hlev
    iexact Hat
  iintro ⟨HO, Hat, -, Hpay⟩
  ihave Hp := (Entails.of_eq (rest_dma m ρ c j r)) $$ Hpay
  imod (Rounds.cell_close ER (sched m ρ) (Set.mem_univ (K (c, some (j, r)))) (fun h => h) (R := 0 + 1) (duties_later m ρ (dCell j c r))) $$ [Hat] with Hz
  · isplitr; · iexact HI
    iexact Hat
  iapply Hk
  isplitl [HO]; · iexists _; iexact HO
  isplitl [Hz Hp]
  · isplitl [Hz]; · iexact Hz
    iexact Hp
  iexact HP

/-! ## The sends -/

/-- Send `r` of the first exchange: the block of the device `r + 1` places down, into its slot `r`. -/
theorem wp_send1 (r : Fin 7) {s s' : Finset (Fin 7)} (s2 : Finset (Fin 7)) (hr : r ∈ s) (hs : s.erase r = s')
    (M : Memref sig .tc .vmem S32x1152 .bf16) (hM : M = blkM (dn c r)) (n : Dev nD) (hn : n = dn c r)
    (D : Memref sig .tc .vmem S32x1152 .bf16) (hD : D = p1S r) (sS sem : DmaSem sig) (hsS : sS = dsem 0 r) (hsem : sem = dsem 1 r)
    {hsc : D.view.ref.isScScratch = false} {hsrc : M.view.WordExact} {hdst : D.view.WordExact}
    {hty : DmaTarget.Typed .vmem (.dma sem) (.remote (Dev.tc n : Thread nD τ) D (.dma sS) hsc)}
    {α : Type} {Q : α → sProp 𝕄} {k : PUnit → Prog (TpuEff nD τ sig (Elt F) Λ₀ .tc) α} :
    iprop(recs m ρ K ∗ ow c (owing c ∅ s s2) ∗ prog s (s1A (F := F) c) (s1B (F := F) c) ∗ blkFull m ρ c (dn c r))
      ⊢ iprop(((ow c (owing c ∅ s' s2) ∗ prog s' (s1A (F := F) c) (s1B (F := F) c)) -∗ WP c (k ⟨⟩) Q)
          -∗ WP c (.op (.enqueueDma M (.remote (Dev.tc n : Thread nD τ) D (.dma sS) hsc) (.dma sem) hsrc hdst hty) k) Q) := by
  subst hM hn hD hsS hsem
  iintro ⟨#HR, HO, HP, HB⟩ Hk
  ihave #HI := (recs_inv m ρ K (c, some (0, r))) $$ HR
  ihave #HI' := (recs_inv m ρ K (dn c r, some (1, r))) $$ HR
  ihave #Hr := (recs_reached m ρ K (c, some (0, r))) $$ HR
  ihave #Hr' := (recs_reached m ρ K (dn c r, some (1, r))) $$ HR
  ihave HP := (prog_take (s1A (F := F) c) (s1B (F := F) c) r hr hs) $$ HP
  unfold s1A s1B ow blkFull blkPts p1Pts
  icases HP with ⟨⟨⟨Ht, Ht'⟩, %fd, Hd⟩, HP⟩
  icases HO with ⟨%W, HO⟩
  icases HB with ⟨%fs, %hfs, HB⟩
  iapply (Rounds.wp_send_pointsTo 𝒱₀ ER (sched m ρ) (c : Thread nD τ) none (κ₁ := K (c, some (0, r))) (κ₂ := K (dn c r, some (1, r)))
    (r₁ := 0) (r₂ := 0) (d₁ := 0) (d₂ := 0) (fs := fs) (fd := fd)
    (by rw [duties_dma]; exact Finset.mem_singleton_self _) (by rw [duties_dma]; exact Finset.mem_singleton_self _)
    () () N1 rfl (amount_dma m ρ c 0 r 0) (amount_dma m ρ (dn c r) 1 r 0) (owing c ∅ s' s2)
    ((owing_erase1 c ∅ s s2 r hr).trans (by rw [hs])) (W := W)
    (by rw [payload_dma]; unfold dmaPay blkPts; iintro H; iexists fs; iexact H)
    (by
      rw [payload_dma]; unfold dmaPay p1Full p1Pts; rw [up_dn]
      iintro H; iexists ((p1S r).view.write (Elt F) fd ((blkM (dn c r)).view.read (Elt F) fs) Finset.univ); isplitr
      · ipureintro; rw [View.read_write_univ]; exact hfs
      · iexact H)) $$ [HO HB Hd Ht Ht']
  · isplitr; · iexact HI
    isplitr; · iexact HI'
    isplitl [HB]; · iexact HB
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iapply HP
  iexact Hc

/-- Send `r` of the second exchange: the send buffer, into slot `r` of the device `r + 1` places down. -/
theorem wp_send2 (r : Fin 7) {s s' : Finset (Fin 7)} (hr : r ∈ s) (hs : s.erase r = s') (n : Dev nD) (hn : n = dn c r)
    (D : Memref sig .tc .vmem S32x1024 .bf16) (hD : D = p2S r) (sS sem : DmaSem sig) (hsS : sS = dsem 2 r) (hsem : sem = dsem 3 r)
    {hsc : D.view.ref.isScScratch = false} {hsrc : (osM : Memref sig .tc .vmem S32x1024 .bf16).view.WordExact} {hdst : D.view.WordExact}
    {hty : DmaTarget.Typed .vmem (.dma sem) (.remote (Dev.tc n : Thread nD τ) D (.dma sS) hsc)}
    {α : Type} {Q : α → sProp 𝕄} {k : PUnit → Prog (TpuEff nD τ sig (Elt F) Λ₀ .tc) α} :
    iprop(recs m ρ K ∗ ow c (owing c ∅ ∅ s) ∗ prog s (s2A m ρ c) (s2B (F := F) c))
      ⊢ iprop(((ow c (owing c ∅ ∅ s') ∗ prog s' (s2A m ρ c) (s2B (F := F) c)) -∗ WP c (k ⟨⟩) Q)
          -∗ WP c (.op (.enqueueDma osM (.remote (Dev.tc n : Thread nD τ) D (.dma sS) hsc) (.dma sem) hsrc hdst hty) k) Q) := by
  subst hn hD hsS hsem
  iintro ⟨#HR, HO, HP⟩ Hk
  ihave #HI := (recs_inv m ρ K (c, some (2, r))) $$ HR
  ihave #HI' := (recs_inv m ρ K (dn c r, some (3, r))) $$ HR
  ihave #Hr := (recs_reached m ρ K (c, some (2, r))) $$ HR
  ihave #Hr' := (recs_reached m ρ K (dn c r, some (3, r))) $$ HR
  ihave HP := (prog_take (s2A m ρ c) (s2B (F := F) c) r hr hs) $$ HP
  unfold s2A s2B ow osPts p2Pts
  icases HP with ⟨⟨⟨Ht, Ht'⟩, ⟨%fd, Hd⟩, HB⟩, HP⟩
  icases HO with ⟨%W, HO⟩
  iapply (Rounds.wp_send_pointsTo 𝒱₀ ER (sched m ρ) (c : Thread nD τ) none (κ₁ := K (c, some (2, r))) (κ₂ := K (dn c r, some (3, r)))
    (r₁ := 0) (r₂ := 0) (d₁ := 0) (d₂ := 0) (fs := ostC m ρ c) (fd := fd)
    (by rw [duties_dma]; exact Finset.mem_singleton_self _) (by rw [duties_dma]; exact Finset.mem_singleton_self _)
    () () N2 rfl (amount_dma m ρ c 2 r 0) (amount_dma m ρ (dn c r) 3 r 0) (owing c ∅ ∅ s')
    ((owing_erase2 c ∅ ∅ s r hr).trans (by rw [hs])) (W := W)
    (by rw [payload_dma]; unfold dmaPay osPts; exact BI.Entails.refl _)
    (by
      rw [payload_dma]; unfold dmaPay p2Full p2Pts; rw [up_dn]
      iintro H; iexists ((p2S r).view.write (Elt F) fd ((osM : Memref sig .tc .vmem S32x1024 .bf16).view.read (Elt F) (ostC m ρ c)) Finset.univ); isplitr
      · ipureintro; rw [View.read_write_univ]; rfl
      · iexact H)) $$ [HO HB Hd Ht Ht']
  · isplitr; · iexact HI
    isplitr; · iexact HI'
    isplitl [HB]; · iexact HB
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iapply HP
  iexact Hc

end Cert.KernelIdeal.Attn
-- ==== Proof.Ideal.Contents.lean ====
/-
# What the buffers hold between steps

The send buffer of the first exchange is filled half by half (128 rows each): eight stores of one head's numerators, then
one of the sums; a filled half is then cut into the four blocks of 32 rows its owners receive. The result is filled block
by block.
-/
module

public import proofs.«01_k».proof.Proof.Ideal.Steps

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kind → ℕ) (c : Dev nD)

/-! ## A store through a rectangle of a whole buffer, element by element -/

section Whole
variable (b : Ref sig .tc) {off size : Fin b.ty.shape.rank → Nat} (inb : ∀ a, off a + size a ≤ b.ty.shape.size a)

omit [FloatOps F] in
theorem write_mem (f : b.ty.Contents (Elt F)) (w : (Rect.unit (s := b.ty.shape) off size inb).shape.Idx → Elt F b.ty.elt)
    (x : (Rect.unit (s := b.ty.shape) off size inb).shape.Idx) (i : b.ty.shape.Idx) (hi : ∀ a, (i a : Nat) = off a + (x a : Nat)) :
    ((Memref.whole b).access (Rect.unit (s := b.ty.shape) off size inb)).write (Elt F) f w Finset.univ i = w x := by
  have e : ((Memref.whole b).access (Rect.unit (s := b.ty.shape) off size inb)).emb x = i := by
    funext a; apply Fin.ext
    show off a + 1 * (x a : Nat) = (i a : Nat)
    rw [hi a, Nat.one_mul]
  rw [← e]
  exact View.write_emb_of_mem (v := (Memref.whole b).access (Rect.unit (s := b.ty.shape) off size inb)) f w (Finset.mem_univ x)

omit [FloatOps F] in
theorem write_not_mem (f : b.ty.Contents (Elt F)) (w : (Rect.unit (s := b.ty.shape) off size inb).shape.Idx → Elt F b.ty.elt)
    (i : b.ty.shape.Idx) (a : Fin b.ty.shape.rank) (hi : (i a : Nat) < off a ∨ off a + size a ≤ (i a : Nat)) :
    ((Memref.whole b).access (Rect.unit (s := b.ty.shape) off size inb)).write (Elt F) f w Finset.univ i = f i := by
  refine View.write_of_not_mem (v := (Memref.whole b).access (Rect.unit (s := b.ty.shape) off size inb)) f w Finset.univ fun h => ?_
  have h' : i ∈ (Rect.unit (s := b.ty.shape) off size inb).set := by
    have e : ((Memref.whole b).access (Rect.unit (s := b.ty.shape) off size inb)).set = (Rect.unit (s := b.ty.shape) off size inb).set :=
      View.set_slice_whole b _
    rw [← e]; exact h
  have := Rect.mem_set_unit.mp h' a
  omega
end Whole

/-! ## The send buffer of the first exchange -/

/-- The rows of half `a`. -/
def halfS (a : Fin 2) : Finset S256x1152.Idx := Finset.univ.filter fun i => (i 0).val / 128 = a.val

/-- Half `a` holds the first `n` heads' numerators. -/
def Filled (c : Dev nD) (a : Fin 2) (n : Nat) (f : S256x1152.Idx → Elt F .bf16) : Prop :=
  ∀ (i : Fin 256) (j : Fin 1024), i.val / 128 = a.val → j.val < 128 * n → f (ix2 i ⟨j.val, by omega⟩) = numT m ρ c i j
/-- Half `a` holds all numerators and the sums. -/
def Done (c : Dev nD) (a : Fin 2) (f : S256x1152.Idx → Elt F .bf16) : Prop :=
  Filled m ρ c a 8 f ∧ ∀ (i : Fin 256) (h : Fin 8), i.val / 128 = a.val → f (ix2 i ⟨1024 + h.val, by omega⟩) = denT m ρ c i h

/-- Half `a` of device `c`'s send buffer at contents `f`. -/
def halfPts (c : Dev nD) (a : Fin 2) (f : Buf (Elt F) ((myM : Memref sig .tc .vmem S256x1152 .bf16).view.loc (c : Thread nD τ))) : sProp 𝕄 :=
  (myM : Memref sig .tc .vmem S256x1152 .bf16).view.loc (c : Thread nD τ) ↦[halfS a]{fullShare} f

theorem filled_zero (a : Fin 2) (f : S256x1152.Idx → Elt F .bf16) : Filled m ρ c a 0 f := fun i j _ h => absurd h (by omega)

theorem filled_succ (a : Fin 2) (h : Fin 8) (f : S256x1152.Idx → Elt F .bf16) (hf : Filled m ρ c a h.val f)
    {off : Fin 2 → Nat} (hoff : off = ![128 * a.val, 128 * h.val]) (inb : ∀ x, off x + S128x128.size x ≤ S256x1152.size x)
    (w : S128x128.Idx → Elt F .bf16) (hw : w = numV m ρ c a h) :
    Filled m ρ c a (h.val + 1)
      (((myM : Memref sig .tc .vmem S256x1152 .bf16).access (Rect.unit (s := S256x1152) off S128x128.size inb)).write (Elt F) f w Finset.univ) := by
  subst hoff hw
  intro i j hi hj
  by_cases h' : j.val < 128 * h.val
  · refine (write_not_mem cc0_scratch0 (off := ![128 * a.val, 128 * h.val]) (size := S128x128.size) inb f _ _ 1 (.inl ?_)).trans (hf i j hi h')
    exact h'
  · refine (write_mem cc0_scratch0 (off := ![128 * a.val, 128 * h.val]) (size := S128x128.size) inb f _
      (ix2 (n0 := 128) (n1 := 128) ⟨i.val % 128, by omega⟩ ⟨j.val % 128, by omega⟩) _ fun x => ?_).trans ?_
    · match x with
      | ⟨0, _⟩ => show i.val = 128 * a.val + i.val % 128; omega
      | ⟨1, _⟩ => show j.val = 128 * h.val + j.val % 128; omega
    · unfold numT
      have ea : (⟨i.val / 128, by omega⟩ : Fin 2) = a := Fin.ext hi
      have eh : (⟨j.val / 128, by omega⟩ : Fin 8) = h := Fin.ext (by show j.val / 128 = h.val; omega)
      rw [ea, eh]

theorem done_of_filled (a : Fin 2) (f : S256x1152.Idx → Elt F .bf16) (hf : Filled m ρ c a 8 f)
    {off : Fin 2 → Nat} (hoff : off = ![128 * a.val, 1024]) (inb : ∀ x, off x + S128x8.size x ≤ S256x1152.size x)
    (w : S128x8.Idx → Elt F .bf16) (hw : w = lAll m ρ c a) :
    Done m ρ c a
      (((myM : Memref sig .tc .vmem S256x1152 .bf16).access (Rect.unit (s := S256x1152) off S128x8.size inb)).write (Elt F) f w Finset.univ) := by
  subst hoff hw
  refine ⟨fun i j hi hj => ?_, fun i h hi => ?_⟩
  · refine (write_not_mem cc0_scratch0 (off := ![128 * a.val, 1024]) (size := S128x8.size) inb f _ _ 1 (.inl ?_)).trans (hf i j hi hj)
    show j.val < 1024; omega
  · refine (write_mem cc0_scratch0 (off := ![128 * a.val, 1024]) (size := S128x8.size) inb f _
      (ix2 (n0 := 128) (n1 := 8) ⟨i.val % 128, by omega⟩ h) _ fun x => ?_).trans ?_
    · match x with
      | ⟨0, _⟩ => show i.val = 128 * a.val + i.val % 128; omega
      | ⟨1, _⟩ => rfl
    · unfold denT
      have ea : (⟨i.val / 128, by omega⟩ : Fin 2) = a := Fin.ext hi
      rw [ea]

/-- A rectangle's elements lie in half `a` if its rows do. -/
theorem rect_sub_half (a : Fin 2) {off size : Fin 2 → Nat} (inb : ∀ x, off x + size x ≤ S256x1152.size x)
    (h0 : 128 * a.val ≤ off 0) (h1 : off 0 + size 0 ≤ 128 * a.val + 128) :
    (Rect.unit (s := S256x1152) off size inb).set ⊆ halfS a := by
  intro i hi
  have := Rect.mem_set_unit.mp hi 0
  exact Finset.mem_filter.mpr ⟨Finset.mem_univ i, by omega⟩

theorem blk_set (b : Dev nD) : (blkM b).view.set = (blkR b).set := View.set_slice_whole cc0_scratch0 _

theorem mem_blk (b : Dev nD) (i : S256x1152.Idx) : i ∈ (blkR b).set ↔ (i 0).val / 32 = b.val := by
  constructor
  · intro h
    have h0 := Rect.mem_set_unit.mp h 0
    have h0' : 32 * b.val ≤ (i 0).val ∧ (i 0).val < 32 * b.val + 32 := h0
    omega
  · intro h
    refine Rect.mem_set_unit.mpr fun x => ?_
    match x with
    | ⟨0, _⟩ => show 32 * b.val ≤ (i 0).val ∧ (i 0).val < 32 * b.val + 32; omega
    | ⟨1, _⟩ => exact ⟨Nat.zero_le _, by have h : (i 1).val < 1152 := (i 1).isLt; show (i 1).val < 0 + 1152; omega⟩

theorem blk_disjoint (b b' : Dev nD) (h : b ≠ b') : Disjoint ((blkM b).view.set) ((blkM b').view.set) := by
  rw [blk_set, blk_set, Finset.disjoint_left]
  intro i hi hi'
  exact h (Fin.ext (((mem_blk b i).mp hi).symm.trans ((mem_blk b' i).mp hi')))

/-- The blocks of half `a`. -/
def halfB (a : Fin 2) : Finset (Dev nD) := Finset.univ.filter fun b => b.val / 4 = a.val

theorem half_eq (a : Fin 2) : halfS a = (halfB a).biUnion fun b => (blkM b).view.set := by
  ext i
  rw [Finset.mem_biUnion]
  constructor
  · intro h
    have h' : (i 0).val / 128 = a.val := (Finset.mem_filter.mp h).2
    have hl : (i 0).val < 256 := (i 0).isLt
    refine ⟨⟨(i 0).val / 32, by show _ < 8; omega⟩, Finset.mem_filter.mpr ⟨Finset.mem_univ _, by show (i 0).val / 32 / 4 = a.val; omega⟩, ?_⟩
    rw [blk_set]; exact (mem_blk _ i).mpr rfl
  · rintro ⟨b, hb, hi⟩
    have hb' : b.val / 4 = a.val := (Finset.mem_filter.mp hb).2
    rw [blk_set] at hi
    have hi' := (mem_blk b i).mp hi
    exact Finset.mem_filter.mpr ⟨Finset.mem_univ i, by omega⟩

theorem univ_eq_blks : (Finset.univ : Finset S256x1152.Idx) = (Finset.univ : Finset (Dev nD)).biUnion fun b => (blkM b).view.set := by
  ext i
  rw [Finset.mem_biUnion]
  have hl : (i 0).val < 256 := (i 0).isLt
  refine ⟨fun _ => ⟨⟨(i 0).val / 32, by show _ < 8; omega⟩, Finset.mem_univ _, ?_⟩, fun _ => Finset.mem_univ _⟩
  rw [blk_set]; exact (mem_blk _ i).mpr rfl

omit [FloatOps F] in
/-- The whole send buffer is its two halves. -/
theorem my_halves (f : Buf (Elt F) ((myM : Memref sig .tc .vmem S256x1152 .bf16).view.loc (c : Thread nD τ))) :
    ((((c : Thread nD τ).loc cc0_scratch0) ↦{fullShare} f : sProp 𝕄)) ⊢ iprop(halfPts c 0 f ∗ halfPts c 1 f) := by
  unfold halfPts
  have hu : (Finset.univ : Finset S256x1152.Idx) = halfS 0 ∪ halfS 1 := by
    ext i
    have hl : (i 0).val < 256 := (i 0).isLt
    refine ⟨fun _ => ?_, fun _ => Finset.mem_univ _⟩
    rw [Finset.mem_union]
    by_cases h : (i 0).val / 128 = 0
    · exact .inl (Finset.mem_filter.mpr ⟨Finset.mem_univ i, h⟩)
    · exact .inr (Finset.mem_filter.mpr ⟨Finset.mem_univ i, by show (i 0).val / 128 = 1; omega⟩)
  have hd : Disjoint (halfS 0) (halfS 1) := by
    rw [Finset.disjoint_left]; intro i h h'
    have h0 : (i 0).val / 128 = 0 := (Finset.mem_filter.mp h).2
    have h1 : (i 0).val / 128 = 1 := (Finset.mem_filter.mp h').2
    omega
  have h := (pointsTo_union (Ix := Unit) (Name := ℕ) (U := UU) (Lvl := ℕ) (Val := Elt F) (ℓ := ((c : Thread nD τ).loc cc0_scratch0)) (q := fullShare) (f := f) hd).1
  rw [← hu] at h
  exact h

/-- A filled half, block by block. -/
theorem half_blocks (a : Fin 2) (f : Buf (Elt F) ((myM : Memref sig .tc .vmem S256x1152 .bf16).view.loc (c : Thread nD τ)))
    (hf : Done m ρ c a f) : (halfPts c a f : sProp 𝕄) ⊢ bigSep (halfB a) (fun b => blkFull m ρ c b) := by
  unfold halfPts
  rw [half_eq a]
  have hsplit := pointsTo_biUnion (Ix := Unit) (Name := ℕ) (U := UU) (Lvl := ℕ) (Val := Elt F) (ℓ := ((c : Thread nD τ).loc cc0_scratch0)) (q := fullShare) (f := f)
    (halfB a) (fun b => (blkM b).view.set) fun b _ b' _ h => blk_disjoint b b' h
  refine (Entails.of_eq hsplit).trans (bigSep_mono fun b hb => ?_)
  have hb' : b.val / 4 = a.val := (Finset.mem_filter.mp hb).2
  show ((((c : Thread nD τ).loc cc0_scratch0) ↦[(blkM b).view.set]{fullShare} f : sProp 𝕄)) ⊢ blkFull m ρ c b
  unfold blkFull blkPts
  iintro H
  iexists f
  isplitr
  · ipureintro
    refine ⟨funext fun i => ?_, funext fun i => ?_⟩
    · refine (congrArg f (?_ : _ = ix2 (n0 := 256) (n1 := 1152) (rowOf b (i 0)) ⟨(i 1).val, by have h : (i 1).val < 1024 := (i 1).isLt; omega⟩)).trans
        (hf.1 (rowOf b (i 0)) (i 1) ?_ ?_)
      · funext x; apply Fin.ext
        match x with
        | ⟨0, _⟩ => show 32 * b.val + 1 * (0 + (i 0).val) = 32 * b.val + (i 0).val; omega
        | ⟨1, _⟩ => show 0 + 1 * (0 + (i 1).val) = (i 1).val; omega
      · have hi : (i 0).val < 32 := (i 0).isLt
        show (32 * b.val + (i 0).val) / 128 = a.val; omega
      · have h : (i 1).val < 1024 := (i 1).isLt; omega
    · refine (congrArg f (?_ : _ = ix2 (n0 := 256) (n1 := 1152) (rowOf b (i 0)) ⟨1024 + (i 1).val, by have h : (i 1).val < 8 := (i 1).isLt; omega⟩)).trans
        (hf.2 (rowOf b (i 0)) (i 1) ?_)
      · funext x; apply Fin.ext
        match x with
        | ⟨0, _⟩ => show 32 * b.val + 1 * (0 + (i 0).val) = 32 * b.val + (i 0).val; omega
        | ⟨1, _⟩ => show 0 + 1 * (1024 + (i 1).val) = 1024 + (i 1).val; omega
      · have hi : (i 0).val < 32 := (i 0).isLt
        show (32 * b.val + (i 0).val) / 128 = a.val; omega
  · iexact H

/-! ## The result -/

/-- The blocks in `s` of the result hold what they end with. -/
def OutF (c : Dev nD) (s : Finset (Dev nD)) (f : S256x1024.Idx → Elt F .f32) : Prop :=
  ∀ b ∈ s, ∀ (i : Fin 32) (j : Fin 1024), f (ix2 (rowOf b i) j) = outB m ρ c b (ix2 i j)

theorem outF_insert (s : Finset (Dev nD)) (b : Dev nD) (f : S256x1024.Idx → Elt F .f32) (hf : OutF m ρ c s f)
    {off : Fin 2 → Nat} (hoff : off = ![32 * b.val, 0]) (inb : ∀ x, off x + S32x1024.size x ≤ S256x1024.size x)
    (w : S32x1024.Idx → Elt F .f32) (hw : w = outB m ρ c b) :
    OutF m ρ c (insert b s)
      (((oM : Memref sig .tc .vmem S256x1024 .f32).access (Rect.unit (s := S256x1024) off S32x1024.size inb)).write (Elt F) f w Finset.univ) := by
  subst hoff hw
  intro b' hb' i j
  by_cases h : b' = b
  · subst h
    refine write_mem cc0_stg5_0 (off := ![32 * b'.val, 0]) (size := S32x1024.size) inb f _ (ix2 (n0 := 32) (n1 := 1024) i j) _ fun x => ?_
    match x with
    | ⟨0, _⟩ => rfl
    | ⟨1, _⟩ => show j.val = 0 + j.val; omega
  · have hs : b' ∈ s := (Finset.mem_insert.mp hb').resolve_left h
    refine (write_not_mem cc0_stg5_0 (off := ![32 * b.val, 0]) (size := S32x1024.size) inb f _ _ 0 ?_).trans (hf b' hs i j)
    have hv : b'.val ≠ b.val := fun h' => h (Fin.ext h')
    have hi := i.isLt
    show 32 * b'.val + i.val < 32 * b.val ∨ 32 * b.val + 32 ≤ 32 * b'.val + i.val
    omega

theorem outF_univ (f : S256x1024.Idx → Elt F .f32) (hf : OutF m ρ c Finset.univ f) : f = outAll m ρ c := by
  funext i
  have hi : (i 0).val < 256 := (i 0).isLt
  refine (congrArg f ?_).trans (hf ⟨(i 0).val / 32, by show _ < 8; omega⟩ (Finset.mem_univ _) ⟨(i 0).val % 32, by omega⟩ (i 1))
  refine (eq_ix2 (n0 := 256) (n1 := 1024) i).trans ?_
  congr 1
  exact Fin.ext (by show (i 0).val = 32 * ((i 0).val / 32) + (i 0).val % 32; omega)

/-! ## The slots -/

theorem p1_set (r : Fin 7) : (p1S r).view.set = (p1R r).set :=
  (View.set_reshape _ _).trans (View.set_slice_whole cc0_scratch2 _)
theorem p2_set (r : Fin 7) : (p2S r).view.set = (p2R r).set :=
  (View.set_reshape _ _).trans (View.set_slice_whole cc0_scratch3 _)

/-- What a load of slot `r` reads, reshaped to the block, is the slot's own reading. -/
theorem p1_read (r : Fin 7) (f : (cc0_scratch2 : Ref sig .tc).ty.Contents (Elt F)) :
    shapeCast S32x1152 ((p1M : Memref sig .tc .vmem S7x32x1152 .bf16).view.readAt (Elt F) (p1R r).toLoadRect f) shapeCasts_S1x32x1152_S32x1152
      = (p1S r).view.read (Elt F) f := rfl
theorem p2_read (r : Fin 7) (f : (cc0_scratch3 : Ref sig .tc).ty.Contents (Elt F)) :
    shapeCast S32x1024 ((p2M : Memref sig .tc .vmem S7x32x1024 .bf16).view.readAt (Elt F) (p2R r).toLoadRect f) shapeCasts_S1x32x1024_S32x1024
      = (p2S r).view.read (Elt F) f := rfl

end Cert.KernelIdeal.Attn
-- ==== Proof.Ideal.Moves.lean ====
/-
# The kernel's moves

A move is a few effects of the kernel that belong together: a load and the store after it, the wait for a block and the
loads of its slot, a send under its condition. Each lemma takes one move on symbolic device `c`.
-/
module

public import proofs.«01_k».proof.Proof.Ideal.Contents

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kind → ℕ) (c : Dev nD)

/-! ## What a device holds of its operands and of its buffers -/

def xPts : sProp 𝕄 := ((c : Thread nD τ).loc cc0_stg0_0) ↦{fullShare} xstg m ρ c
def wqPts : sProp 𝕄 := ((c : Thread nD τ).loc cc0_stg1_0) ↦{fullShare} wqstg m ρ c
def woPts : sProp 𝕄 := ((c : Thread nD τ).loc cc0_stg2_0) ↦{fullShare} wostg m ρ c
def kPts : sProp 𝕄 := ((c : Thread nD τ).loc cc0_stg3_0) ↦{fullShare} kstg m ρ c
def vPts : sProp 𝕄 := ((c : Thread nD τ).loc cc0_stg4_0) ↦{fullShare} vstg m ρ c

/-- Half `a` of the send buffer with `n` heads stored, and with everything stored. -/
def halfAt (a : Fin 2) (n : ℕ) : sProp 𝕄 := iprop(∃ f, ⌜Filled m ρ c a n f⌝ ∗ halfPts c a f)
/-- The result's staging buffer with the blocks of `s` stored. -/
def outAt (s : Finset (Dev nD)) : sProp 𝕄 :=
  iprop(∃ f : Buf (Elt F) ((oM : Memref sig .tc .vmem S256x1024 .f32).view.loc (c : Thread nD τ)),
    ⌜OutF m ρ c s f⌝ ∗ ((oM : Memref sig .tc .vmem S256x1024 .f32).view.loc (c : Thread nD τ) ↦{fullShare} f))
/-- The second send buffer, at any contents. -/
def osAny : sProp 𝕄 :=
  iprop(∃ f : Buf (Elt F) ((osM : Memref sig .tc .vmem S32x1024 .bf16).view.loc (c : Thread nD τ)),
    ((osM : Memref sig .tc .vmem S32x1024 .bf16).view.loc (c : Thread nD τ) ↦{fullShare} f))

/-! ## Loads of the operands -/

omit [FloatOps F] in
theorem zz2 : (![0, 0] : Fin 2 → Nat) = fun _ => 0 := funext fun a => by fin_cases a <;> rfl
omit [FloatOps F] in
theorem zz3 : (![0, 0, 0] : Fin 3 → Nat) = fun _ => 0 := funext fun a => by fin_cases a <;> rfl

section Loads
theorem wp_ld_x {inb} {hl} {α : Type} {Q : α → sProp 𝕄} {k : _ → Prog (TpuEff nD τ sig (Elt F) Λ₀ .tc) α} :
    xPts m ρ c ⊢ iprop((xPts m ρ c -∗ WP c (k (xstg m ρ c)) Q)
      -∗ WP c (.op (.load xM (Rect.unit (s := S1x256x1024) ![0, 0, 0] S1x256x1024.size inb).toLoadRect hl) k) Q) := by
  have e : (xM : Memref sig .tc .vmem S1x256x1024 .f32).view.readAt (Elt F) (Rect.unit (s := S1x256x1024) ![0, 0, 0] S1x256x1024.size inb).toLoadRect (xstg m ρ c) = xstg m ρ c :=
    Memref.readAt_unit_zero (Elt F) cc0_stg0_0 zz3 _ _
  have h : xPts m ρ c ⊢ iprop((xPts m ρ c -∗ WP c (k ((xM : Memref sig .tc .vmem S1x256x1024 .f32).view.readAt (Elt F) (Rect.unit (s := S1x256x1024) ![0, 0, 0] S1x256x1024.size inb).toLoadRect (xstg m ρ c))) Q)
      -∗ WP c (.op (.load xM (Rect.unit (s := S1x256x1024) ![0, 0, 0] S1x256x1024.size inb).toLoadRect hl) k) Q) :=
    wp_load 𝒱₀ (c : Thread nD τ) none Set.univ (m := xM) (q := fullShare) (f := xstg m ρ c) (Finset.subset_univ _)
  rw [e] at h
  exact h

theorem wp_ld_wq {inb} {hl} {α : Type} {Q : α → sProp 𝕄} {k : _ → Prog (TpuEff nD τ sig (Elt F) Λ₀ .tc) α} :
    wqPts m ρ c ⊢ iprop((wqPts m ρ c -∗ WP c (k (wqstg m ρ c)) Q)
      -∗ WP c (.op (.load wqM (Rect.unit (s := S1024x1024) ![0, 0] S1024x1024.size inb).toLoadRect hl) k) Q) := by
  have e : (wqM : Memref sig .tc .vmem S1024x1024 .f32).view.readAt (Elt F) (Rect.unit (s := S1024x1024) ![0, 0] S1024x1024.size inb).toLoadRect (wqstg m ρ c) = wqstg m ρ c :=
    Memref.readAt_unit_zero (Elt F) cc0_stg1_0 zz2 _ _
  have h : wqPts m ρ c ⊢ iprop((wqPts m ρ c -∗ WP c (k ((wqM : Memref sig .tc .vmem S1024x1024 .f32).view.readAt (Elt F) (Rect.unit (s := S1024x1024) ![0, 0] S1024x1024.size inb).toLoadRect (wqstg m ρ c))) Q)
      -∗ WP c (.op (.load wqM (Rect.unit (s := S1024x1024) ![0, 0] S1024x1024.size inb).toLoadRect hl) k) Q) :=
    wp_load 𝒱₀ (c : Thread nD τ) none Set.univ (m := wqM) (q := fullShare) (f := wqstg m ρ c) (Finset.subset_univ _)
  rw [e] at h
  exact h

theorem wp_ld_wo {inb} {hl} {α : Type} {Q : α → sProp 𝕄} {k : _ → Prog (TpuEff nD τ sig (Elt F) Λ₀ .tc) α} :
    woPts m ρ c ⊢ iprop((woPts m ρ c -∗ WP c (k (wostg m ρ c)) Q)
      -∗ WP c (.op (.load woM (Rect.unit (s := S1024x1024) ![0, 0] S1024x1024.size inb).toLoadRect hl) k) Q) := by
  have e : (woM : Memref sig .tc .vmem S1024x1024 .f32).view.readAt (Elt F) (Rect.unit (s := S1024x1024) ![0, 0] S1024x1024.size inb).toLoadRect (wostg m ρ c) = wostg m ρ c :=
    Memref.readAt_unit_zero (Elt F) cc0_stg2_0 zz2 _ _
  have h : woPts m ρ c ⊢ iprop((woPts m ρ c -∗ WP c (k ((woM : Memref sig .tc .vmem S1024x1024 .f32).view.readAt (Elt F) (Rect.unit (s := S1024x1024) ![0, 0] S1024x1024.size inb).toLoadRect (wostg m ρ c))) Q)
      -∗ WP c (.op (.load woM (Rect.unit (s := S1024x1024) ![0, 0] S1024x1024.size inb).toLoadRect hl) k) Q) :=
    wp_load 𝒱₀ (c : Thread nD τ) none Set.univ (m := woM) (q := fullShare) (f := wostg m ρ c) (Finset.subset_univ _)
  rw [e] at h
  exact h

/-- A load of key head `g`'s keys, and of its values. -/
theorem wp_ld_k (g : Fin 2) {off : Fin 4 → Nat} (hoff : off = ![0, 0, g.val, 0]) {inb} {hl} {α : Type} {Q : α → sProp 𝕄}
    {k : _ → Prog (TpuEff nD τ sig (Elt F) Λ₀ .tc) α} :
    kPts m ρ c ⊢ iprop((kPts m ρ c -∗ WP c (k (kv m ρ c g)) Q)
      -∗ WP c (.op (.load kM (Rect.unit (s := S1x4096x2x128) off S1x4096x1x128.size inb).toLoadRect hl) k) Q) := by
  subst hoff
  exact wp_load 𝒱₀ (c : Thread nD τ) none Set.univ (m := kM) (hl := hl) (k := k) (q := fullShare) (f := kstg m ρ c) (Q := Q) (Finset.subset_univ _)
theorem wp_ld_v (g : Fin 2) {off : Fin 4 → Nat} (hoff : off = ![0, 0, g.val, 0]) {inb} {hl} {α : Type} {Q : α → sProp 𝕄}
    {k : _ → Prog (TpuEff nD τ sig (Elt F) Λ₀ .tc) α} :
    vPts m ρ c ⊢ iprop((vPts m ρ c -∗ WP c (k (vv m ρ c g)) Q)
      -∗ WP c (.op (.load vM (Rect.unit (s := S1x4096x2x128) off S1x4096x1x128.size inb).toLoadRect hl) k) Q) := by
  subst hoff
  exact wp_load 𝒱₀ (c : Thread nD τ) none Set.univ (m := vM) (hl := hl) (k := k) (q := fullShare) (f := vstg m ρ c) (Q := Q) (Finset.subset_univ _)

/-- The load of the device's own block of its send buffer. -/
theorem wp_ld_own {off : Fin 2 → Nat} (hoff : off = ![32 * c.val, 0]) {inb} {hl} {α : Type} {Q : α → sProp 𝕄}
    {k : _ → Prog (TpuEff nD τ sig (Elt F) Λ₀ .tc) α} :
    blkFull m ρ c c ⊢ iprop((∀ v, ⌜Blk m ρ c c v⌝ -∗ blkFull m ρ c c -∗ WP c (k v) Q)
      -∗ WP c (.op (.load myM (Rect.unit (s := S256x1152) off S32x1152.size inb).toLoadRect hl) k) Q) := by
  subst hoff
  unfold blkFull blkPts
  iintro ⟨%f, %hf, H⟩ Hk
  iapply (wp_load_rect 𝒱₀ (c : Thread nD τ) none Set.univ (m := myM) (r := blkR c) (hl := hl) (k := k) (q := fullShare) (f := f) (Q := Q) (fun _ h => h)) $$ H
  iintro H
  iapply Hk $$ %((blkM c).view.read (Elt F) f) %hf
  iexists f
  isplitr; · ipureintro; exact hf
  iexact H
end Loads

/-! ## Stores -/

theorem head_sub (a : Fin 2) (h : Fin 8) {off : Fin 2 → Nat} (hoff : off = ![128 * a.val, 128 * h.val])
    (inb : ∀ x, off x + S128x128.size x ≤ S256x1152.size x) :
    ((myM : Memref sig .tc .vmem S256x1152 .bf16).access (Rect.unit (s := S256x1152) off S128x128.size inb)).set ⊆ halfS a := by
  subst hoff
  refine (Finset.Subset.antisymm_iff.mp (View.set_slice_whole cc0_scratch0 _)).1.trans (rect_sub_half a inb ?_ ?_)
  · show 128 * a.val ≤ 128 * a.val; omega
  · show 128 * a.val + 128 ≤ 128 * a.val + 128; omega

/-- The load before a store of numerators reads what is overwritten; its value is not used. -/
theorem wp_dl_head (a : Fin 2) (h : Fin 8) {n : ℕ} {off : Fin 2 → Nat} (hoff : off = ![128 * a.val, 128 * h.val]) {inb} {hl}
    {α : Type} {Q : α → sProp 𝕄} {k : Prog (TpuEff nD τ sig (Elt F) Λ₀ .tc) α} :
    halfAt m ρ c a n ⊢ iprop((halfAt m ρ c a n -∗ WP c k Q)
      -∗ WP c (.op (.load myM (Rect.unit (s := S256x1152) off S128x128.size inb).toLoadRect hl) (fun _ => k)) Q) := by
  unfold halfAt halfPts
  iintro ⟨%f, %hf, H⟩ Hk
  iapply (wp_load_rect 𝒱₀ (c : Thread nD τ) none Set.univ (m := myM) (q := fullShare) (f := f) (Q := Q) (head_sub a h hoff inb)) $$ H
  iintro H
  iapply Hk
  iexists f
  isplitr; · ipureintro; exact hf
  iexact H

/-- Head `h`'s numerators into half `a`. -/
theorem wp_st_head (a : Fin 2) (h : Fin 8) {n n' : ℕ} (hn : h.val = n) (hn' : n + 1 = n') {off : Fin 2 → Nat}
    (hoff : off = ![128 * a.val, 128 * h.val]) {inb}
    {w : S128x128.Idx → Elt F .bf16} (hw : w = numV m ρ c a h) {hx} {hm}
    {α : Type} {Q : α → sProp 𝕄} {k : PUnit → Prog (TpuEff nD τ sig (Elt F) Λ₀ .tc) α} :
    halfAt m ρ c a n ⊢ iprop((halfAt m ρ c a n' -∗ WP c (k ⟨⟩) Q)
      -∗ WP c (.op (.store myM (Rect.unit (s := S256x1152) off S128x128.size inb) w Finset.univ hx hm) k) Q) := by
  subst hn hn'
  unfold halfAt halfPts
  iintro ⟨%f, %hf, H⟩ Hk
  iapply (wp_store 𝒱₀ (c : Thread nD τ) none Set.univ (m := myM) (Mk := Finset.univ) (f := f) (Q := Q) (head_sub a h hoff inb)) $$ H
  iintro H
  iapply Hk
  iexists (((myM : Memref sig .tc .vmem S256x1152 .bf16).access (Rect.unit (s := S256x1152) off S128x128.size inb)).write (Elt F) f w Finset.univ)
  isplitr; · ipureintro; exact filled_succ m ρ c a h f hf hoff inb w hw
  iexact H

/-- The sums into half `a`: the half is filled, and cut into its four blocks. -/
theorem wp_st_sums (a : Fin 2) {off : Fin 2 → Nat} (hoff : off = ![128 * a.val, 1024]) {inb} {hl}
    {w : S128x8.Idx → Elt F .bf16} (hw : w = lAll m ρ c a) {hx} {hm}
    {α : Type} {Q : α → sProp 𝕄} {k : PUnit → Prog (TpuEff nD τ sig (Elt F) Λ₀ .tc) α} :
    halfAt m ρ c a 8 ⊢ iprop((bigSep (halfB a) (fun b => blkFull m ρ c b) -∗ WP c (k ⟨⟩) Q)
      -∗ WP c (.op (.load myM (Rect.unit (s := S256x1152) off S128x8.size inb).toLoadRect hl)
          (fun _ => .op (.store myM (Rect.unit (s := S256x1152) off S128x8.size inb) w Finset.univ hx hm) k)) Q) := by
  have hsub : ((myM : Memref sig .tc .vmem S256x1152 .bf16).access (Rect.unit (s := S256x1152) off S128x8.size inb)).set ⊆ halfS a := by
    subst hoff
    refine (Finset.Subset.antisymm_iff.mp (View.set_slice_whole cc0_scratch0 _)).1.trans (rect_sub_half a inb ?_ ?_)
    · show 128 * a.val ≤ 128 * a.val; omega
    · show 128 * a.val + 128 ≤ 128 * a.val + 128; omega
  unfold halfAt halfPts
  iintro ⟨%f, %hf, H⟩ Hk
  iapply (wp_load_rect 𝒱₀ (c : Thread nD τ) none Set.univ (m := myM) (q := fullShare) (f := f) (Q := Q) hsub) $$ H
  iintro H
  iapply (wp_store 𝒱₀ (c : Thread nD τ) none Set.univ (m := myM) (Mk := Finset.univ) (f := f) (Q := Q) hsub) $$ H
  iintro H
  iapply Hk
  iapply (half_blocks m ρ c a _ (done_of_filled m ρ c a f hf hoff inb w hw))
  unfold halfPts
  iexact H

/-- Block `b` of the result. -/
theorem wp_st_out (b : Dev nD) {s s' : Finset (Dev nD)} (hs : insert b s = s') {off : Fin 2 → Nat} (hoff : off = ![32 * b.val, 0]) {inb} {hl}
    {w : S32x1024.Idx → Elt F .f32} (hw : w = outB m ρ c b) {hx} {hm}
    {α : Type} {Q : α → sProp 𝕄} {k : PUnit → Prog (TpuEff nD τ sig (Elt F) Λ₀ .tc) α} :
    outAt m ρ c s ⊢ iprop((outAt m ρ c s' -∗ WP c (k ⟨⟩) Q)
      -∗ WP c (.op (.load oM (Rect.unit (s := S256x1024) off S32x1024.size inb).toLoadRect hl)
          (fun _ => .op (.store oM (Rect.unit (s := S256x1024) off S32x1024.size inb) w Finset.univ hx hm) k)) Q) := by
  unfold outAt
  iintro ⟨%f, %hf, H⟩ Hk
  iapply (wp_load 𝒱₀ (c : Thread nD τ) none Set.univ (m := oM) (q := fullShare) (f := f) (Q := Q) (Finset.subset_univ _)) $$ H
  iintro H
  iapply (wp_store 𝒱₀ (c : Thread nD τ) none Set.univ (m := oM) (r := Rect.unit (s := S256x1024) off S32x1024.size inb) (Mk := Finset.univ) (f := f) (Q := Q) (Finset.subset_univ _)) $$ H
  iintro H
  iapply Hk
  iexists (((oM : Memref sig .tc .vmem S256x1024 .f32).access (Rect.unit (s := S256x1024) off S32x1024.size inb)).write (Elt F) f w Finset.univ)
  isplitr; · ipureintro; subst hs; exact outF_insert m ρ c s b f hf hoff inb w hw
  iexact H

/-- The second send buffer, cut into the shares its seven sends read. -/
theorem wp_st_os {inb} {hl} {w : S32x1024.Idx → Elt F .bf16} (hw : w = ostv m ρ c) {hx} {hm}
    {α : Type} {Q : α → sProp 𝕄} {k : PUnit → Prog (TpuEff nD τ sig (Elt F) Λ₀ .tc) α} :
    osAny (F := F) c
      ⊢ iprop((bigSep Finset.univ (fun r => osPts m ρ c r) -∗ WP c (k ⟨⟩) Q)
      -∗ WP c (.op (.load osM (Rect.unit (s := S32x1024) ![0, 0] S32x1024.size inb).toLoadRect hl)
          (fun _ => .op (.store osM (Rect.unit (s := S32x1024) ![0, 0] S32x1024.size inb) w Finset.univ hx hm) k)) Q) := by
  subst hw
  unfold osAny
  iintro ⟨%f, H⟩ Hk
  iapply (wp_load 𝒱₀ (c : Thread nD τ) none Set.univ (m := osM) (q := fullShare) (f := f) (Q := Q) (Finset.subset_univ _)) $$ H
  iintro H
  iapply (wp_store 𝒱₀ (c : Thread nD τ) none Set.univ (m := osM) (r := Rect.unit (s := S32x1024) ![0, 0] S32x1024.size inb) (Mk := Finset.univ) (f := f) (Q := Q) (Finset.subset_univ _)) $$ H
  iintro H
  iapply Hk
  have e : ((osM : Memref sig .tc .vmem S32x1024 .bf16).access (Rect.unit (s := S32x1024) ![0, 0] S32x1024.size inb)).write (Elt F) f (ostv m ρ c) Finset.univ = ostC m ρ c :=
    Memref.write_access_unit_zero_univ (Elt F) cc0_scratch1 zz2 _ f _
  rw [e]
  have hset : (osM : Memref sig .tc .vmem S32x1024 .bf16).view.set = Finset.univ := View.set_whole _
  unfold osPts shr
  rw [hset]
  iapply (Entails.of_eq (Transfers.pointsTo_deal (Finset.univ : Finset (Fin 7)) ⟨0, Finset.mem_univ _⟩ fullShare)) $$ H

/-! ## Receives -/

theorem up_ne (r : Fin 7) : up c r ≠ c := by revert c r; decide

/-- Receive `r` of the first exchange: the wait, and the load of the slot. -/
theorem wp_recv1 (r : Fin 7) {s s' : Finset (Fin 7)} (s2 : Finset (Fin 7)) (hr : r ∈ s) (hs : s.erase r = s')
    (sem : DmaSem sig) (hsem : sem = dsem 1 r) {sp : Space} {sh : Shape} {e : EltTy} (src : Memref sig .tc sp sh e)
    (D : Memref sig .tc .vmem S32x1152 .bf16) (hD : D = p1S r) {hsrc : src.view.WordExact} {hdst : D.view.WordExact}
    {off : Fin 3 → Nat} (hoff : off = ![r.val, 0, 0]) {inb} {hl}
    {α : Type} {Q : α → sProp 𝕄} {k : _ → Prog (TpuEff nD τ sig (Elt F) Λ₀ .tc) α} :
    iprop(recs m ρ K ∗ ow c (owing c ∅ ∅ s2) ∗ prog s (wA (F := F) c 1) (rB (F := F) c 1))
      ⊢ iprop((∀ v, ⌜Blk m ρ (up c r) c (shapeCast S32x1152 v shapeCasts_S1x32x1152_S32x1152)⌝
            -∗ (ow c (owing c ∅ ∅ s2) ∗ prog s' (wA (F := F) c 1) (rB (F := F) c 1)) -∗ WP c (k v) Q)
          -∗ WP c (.op (.waitDma2 sem src D hsrc hdst)
              (fun _ => .op (.load p1M (Rect.unit (s := S7x32x1152) off S1x32x1152.size inb).toLoadRect hl) k)) Q) := by
  subst hD hoff
  iintro ⟨#HR, HO, HP⟩ Hk
  iapply (wp_dwait m ρ K c 1 r ∅ s2 hr hs rfl (.inr rfl) sem hsem src (p1S r) (p1S_credit r) (rB (F := F) c 1)) $$ [HO HP]
  · isplitr; · iexact HR
    isplitl [HO]; · iexact HO
    iexact HP
  unfold wB dmaPay p1Full
  iintro ⟨HO, ⟨Hz, %f, %hf, Hp⟩, HP⟩
  have hsub : ((p1M : Memref sig .tc .vmem S7x32x1152 .bf16).access (p1R r)).set ⊆ (p1S r).view.set := by
    rw [p1_set r]; exact (Finset.Subset.antisymm_iff.mp (View.set_slice_whole cc0_scratch2 _)).1
  unfold p1Pts
  iapply (wp_load_rect 𝒱₀ (c : Thread nD τ) none Set.univ (m := p1M) (r := p1R r) (q := fullShare) (f := f) (Q := Q) hsub) $$ Hp
  iintro Hp
  iapply Hk $$ %(((p1M : Memref sig .tc .vmem S7x32x1152 .bf16).access (p1R r)).read (Elt F) f) %hf
  isplitl [HO]; · iexact HO
  iapply HP
  unfold rB
  isplitl [Hz]; · iexact Hz
  rw [if_pos rfl]
  iexists f
  unfold p1Pts
  iexact Hp

/-- Receive `r` of the second exchange: the wait, the load of the slot, and the store of the block it holds. -/
theorem wp_recv2 (r : Fin 7) {s s' : Finset (Fin 7)} (hr : r ∈ s) (hs : s.erase r = s')
    {t t' : Finset (Dev nD)} (ht : insert (up c r) t = t')
    (sem : DmaSem sig) (hsem : sem = dsem 3 r) {sp : Space} {sh : Shape} {e : EltTy} (src : Memref sig .tc sp sh e)
    (D : Memref sig .tc .vmem S32x1024 .bf16) (hD : D = p2S r) {hsrc : src.view.WordExact} {hdst : D.view.WordExact}
    {off : Fin 3 → Nat} (hoff : off = ![r.val, 0, 0]) {inb} {hl}
    {off' : Fin 2 → Nat} (hoff' : off' = ![32 * (up c r).val, 0]) {inb'} {hl'}
    (pay : Vec F S1x32x1024 .bf16 → FVec F S32x1024 .f32)
    (hpay : ∀ v, pay v = extf .f32 (shapeCast S32x1024 v shapeCasts_S1x32x1024_S32x1024) bitsLt_bf16_f32)
    {hx} {hm} {α : Type} {Q : α → sProp 𝕄} {k : PUnit → Prog (TpuEff nD τ sig (Elt F) Λ₀ .tc) α} :
    iprop(recs m ρ K ∗ ow c (owing c ∅ ∅ ∅) ∗ prog s (wA (F := F) c 3) (rB (F := F) c 3) ∗ outAt m ρ c t)
      ⊢ iprop(((ow c (owing c ∅ ∅ ∅) ∗ prog s' (wA (F := F) c 3) (rB (F := F) c 3) ∗ outAt m ρ c t') -∗ WP c (k ⟨⟩) Q)
          -∗ WP c (.op (.waitDma2 sem src D hsrc hdst)
              (fun _ => .op (.load p2M (Rect.unit (s := S7x32x1024) off S1x32x1024.size inb).toLoadRect hl)
                (fun v => .op (.load oM (Rect.unit (s := S256x1024) off' S32x1024.size inb').toLoadRect hl')
                  (fun _ => .op (.store oM (Rect.unit (s := S256x1024) off' S32x1024.size inb') (pay v) Finset.univ hx hm) k)))) Q) := by
  subst hD hoff
  iintro ⟨#HR, HO, HP, Hout⟩ Hk
  iapply (wp_dwait m ρ K c 3 r ∅ ∅ hr hs rfl (.inl rfl) sem hsem src (p2S r) (p2S_credit r) (rB (F := F) c 3)) $$ [HO HP]
  · isplitr; · iexact HR
    isplitl [HO]; · iexact HO
    iexact HP
  unfold wB dmaPay p2Full
  iintro ⟨HO, ⟨Hz, %f, %hf, Hp⟩, HP⟩
  have hsub : ((p2M : Memref sig .tc .vmem S7x32x1024 .bf16).access (p2R r)).set ⊆ (p2S r).view.set := by
    rw [p2_set r]; exact (Finset.Subset.antisymm_iff.mp (View.set_slice_whole cc0_scratch3 _)).1
  unfold p2Pts
  iapply (wp_load_rect 𝒱₀ (c : Thread nD τ) none Set.univ (m := p2M) (r := p2R r) (q := fullShare) (f := f) (Q := Q) hsub) $$ Hp
  iintro Hp
  have hval : pay (((p2M : Memref sig .tc .vmem S7x32x1024 .bf16).access (p2R r)).read (Elt F) f) = outB m ρ c (up c r) := by
    rw [hpay]
    unfold outB recvv
    rw [if_neg (up_ne c r)]
    exact congrArg (fun v => extf .f32 v bitsLt_bf16_f32) hf
  iapply (wp_st_out m ρ c (up c r) ht hoff' hval) $$ Hout
  iintro Hout
  iapply Hk
  isplitl [HO]; · iexact HO
  isplitr [Hout]
  · iapply HP
    unfold rB
    isplitl [Hz]; · iexact Hz
    rw [if_neg (by decide)]
    iexists f
    unfold p2Pts
    iexact Hp
  iexact Hout

/-! ## The sends of the first exchange, each under its condition -/

/-- The sends not yet made when half `a` is ready and its sends below `n` are made. -/
def remS (a : Fin 2) (n : ℕ) : Finset (Fin 7) :=
  Finset.univ.filter fun r => ((dn c r).val / 4 = a.val ∧ n ≤ r.val) ∨ a.val < (dn c r).val / 4
/-- Those of them that half `a` makes. -/
def remB (a : Fin 2) (n : ℕ) : Finset (Fin 7) := Finset.univ.filter fun r => (dn c r).val / 4 = a.val ∧ n ≤ r.val

theorem mem_remS (a : Fin 2) (n : ℕ) (r : Fin 7) : r ∈ remS c a n ↔ (((dn c r).val / 4 = a.val ∧ n ≤ r.val) ∨ a.val < (dn c r).val / 4) := by
  unfold remS; rw [Finset.mem_filter]; exact ⟨fun h => h.2, fun h => ⟨Finset.mem_univ r, h⟩⟩
theorem mem_remB (a : Fin 2) (n : ℕ) (r : Fin 7) : r ∈ remB c a n ↔ ((dn c r).val / 4 = a.val ∧ n ≤ r.val) := by
  unfold remB; rw [Finset.mem_filter]; exact ⟨fun h => h.2, fun h => ⟨Finset.mem_univ r, h⟩⟩

theorem remS_in (a : Fin 2) (r : Fin 7) (h : (dn c r).val / 4 = a.val) : (remS c a r.val).erase r = remS c a (r.val + 1) := by
  ext r'
  rw [Finset.mem_erase, mem_remS, mem_remS]
  by_cases e : r' = r
  · subst e; omega
  · have : r'.val ≠ r.val := fun h' => e (Fin.ext h')
    exact ⟨fun h' => by omega, fun h' => ⟨e, by omega⟩⟩
theorem remB_in (a : Fin 2) (r : Fin 7) : (remB c a r.val).erase r = remB c a (r.val + 1) := by
  ext r'
  rw [Finset.mem_erase, mem_remB, mem_remB]
  by_cases e : r' = r
  · subst e; omega
  · have : r'.val ≠ r.val := fun h' => e (Fin.ext h')
    exact ⟨fun h' => by omega, fun h' => ⟨e, by omega⟩⟩
theorem remS_out (a : Fin 2) (r : Fin 7) (h : (dn c r).val / 4 ≠ a.val) : remS c a r.val = remS c a (r.val + 1) := by
  ext r'
  rw [mem_remS, mem_remS]
  by_cases e : r' = r
  · subst e; omega
  · have : r'.val ≠ r.val := fun h' => e (Fin.ext h')
    omega
theorem remB_out (a : Fin 2) (r : Fin 7) (h : (dn c r).val / 4 ≠ a.val) : remB c a r.val = remB c a (r.val + 1) := by
  ext r'
  rw [mem_remB, mem_remB]
  by_cases e : r' = r
  · subst e; omega
  · have : r'.val ≠ r.val := fun h' => e (Fin.ext h')
    omega

/-- What the device holds before send `n` of half `a`. -/
def sendSt (a : Fin 2) (n : ℕ) : sProp 𝕄 :=
  iprop(ow c (owing c ∅ (remS c a n) Finset.univ) ∗ prog (remS c a n) (s1A (F := F) c) (s1B (F := F) c)
    ∗ bigSep (remB c a n) (fun r => blkFull m ρ c (dn c r)))

/-- The 32 rows at the offset of block `b` are block `b`. -/
theorem slice_blk (b : Dev nD) {off : Fin 2 → Nat} (h : off = ![32 * b.val, 0]) (inb : ∀ x, off x + S32x1152.size x ≤ S256x1152.size x) :
    (myM : Memref sig .tc .vmem S256x1152 .bf16).slice (Rect.unit (s := S256x1152) off S32x1152.size inb) (fun _ => rfl) = blkM b := by
  subst h; rfl

/-- Send `r` of half `a` under its condition, which is that the target's block lies in this half. -/
theorem wp_send1_if (a : Fin 2) (r : Fin 7) {n₀ n₁ : ℕ} (h₀ : r.val = n₀) (h₁ : n₀ + 1 = n₁) {C : Prop} [Decidable C] (hC : C ↔ (dn c r).val / 4 = a.val)
    (M : C → Memref sig .tc .vmem S32x1152 .bf16) (hM : ∀ h, M h = blkM (dn c r)) (n : C → Dev nD) (hn : ∀ h, n h = dn c r)
    (D : Memref sig .tc .vmem S32x1152 .bf16) (hD : D = p1S r) (sS sem : DmaSem sig) (hsS : sS = dsem 0 r) (hsem : sem = dsem 1 r)
    {hsc : C → D.view.ref.isScScratch = false} {hsrc : ∀ h : C, (M h).view.WordExact} {hdst : C → D.view.WordExact}
    {hty : ∀ h : C, DmaTarget.Typed .vmem (.dma sem) (.remote (Dev.tc (n h) : Thread nD τ) D (.dma sS) (hsc h))}
    {α : Type} {Q : α → sProp 𝕄} {k : Prog (TpuEff nD τ sig (Elt F) Λ₀ .tc) α} :
    iprop(recs m ρ K ∗ sendSt m ρ c a n₀)
      ⊢ iprop((sendSt m ρ c a n₁ -∗ WP c k Q)
          -∗ WP c ((if h : C then
              (.op (.enqueueDma (M h) (.remote (Dev.tc (n h) : Thread nD τ) D (.dma sS) (hsc h)) (.dma sem) (hsrc h) (hdst h) (hty h)) (fun _ => k)
                : Prog (TpuEff nD τ sig (Elt F) Λ₀ .tc) α) else k)) Q) := by
  subst h₀ h₁
  unfold sendSt
  by_cases h : C
  · have hd := hC.mp h
    have hB : bigSep (remB c a r.val) (fun r => blkFull m ρ c (dn c r)) = iprop(blkFull m ρ c (dn c r) ∗ bigSep (remB c a (r.val + 1)) (fun r => blkFull m ρ c (dn c r))) := by
      rw [← remB_in c a r]; exact bigSep_erase ((mem_remB c a _ r).mpr ⟨hd, le_refl _⟩)
    rw [dif_pos h, hB]
    iintro ⟨#HR, HO, HP, HB, HBs⟩ Hk
    iapply (wp_send1 m ρ K c r Finset.univ ((mem_remS c a _ r).mpr (.inl ⟨hd, le_refl _⟩)) (remS_in c a r hd) (M h) (hM h) (n h) (hn h) D hD sS sem hsS hsem) $$ [HO HP HB]
    · isplitr; · iexact HR
      isplitl [HO]; · iexact HO
      isplitl [HP]; · iexact HP
      iexact HB
    iintro ⟨HO, HP⟩
    iapply Hk
    isplitl [HO]; · iexact HO
    isplitl [HP]; · iexact HP
    iexact HBs
  · have hd : (dn c r).val / 4 ≠ a.val := fun h' => h (hC.mpr h')
    rw [dif_neg h, ← remB_out c a r hd, ← remS_out c a r hd]
    iintro ⟨#HR, H⟩ Hk
    iapply Hk
    iexact H

end Cert.KernelIdeal.Attn
-- ==== Proof.Ideal.Parts.lean ====
/-
# The body, part by part: the barrier, and the two halves of partial attention with their sends

The printed body is a chain of parts; each lemma takes one of them.
-/
module

public import proofs.«01_k».proof.Proof.Ideal.Moves

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kind → ℕ) (c : Dev nD)

theorem WP_ret {α : Type} {Q : α → sProp 𝕄} {a : α} : WP c (Prog.ret a : Prog (TpuEff nD τ sig (Elt F) Λ₀ .tc) α) Q = iprop(|={Set.univ}=> Q a) := wp_ret _ _ _ _ _

/-- What the stores of half `a` work with: the keys, the values, and the half with `n` heads stored. -/
def half (a : Fin 2) (n : ℕ) : sProp 𝕄 := iprop(kPts m ρ c ∗ vPts m ρ c ∗ halfAt m ρ c a n)

set_option maxHeartbeats 1600000 in
/-- The first five signals. -/
theorem part1 {Kt : _ → sProp 𝕄} :
    iprop(recs m ρ K ∗ ow c (owing c (Finset.univ.filter (fun r : Fin 7 => 0 ≤ r.val)) Finset.univ Finset.univ) ∗ prog (Finset.univ.filter (fun r : Fin 7 => 0 ≤ r.val)) (sigA (F := F) c) (sigB (F := F)))
      ⊢ iprop((∀ w2 w24 w8, (ow c (owing c (Finset.univ.filter (fun r : Fin 7 => 5 ≤ r.val)) Finset.univ Finset.univ) ∗ prog (Finset.univ.filter (fun r : Fin 7 => 5 ≤ r.val)) (sigA (F := F) c) (sigB (F := F))) -∗ Kt ⟨c, w2, SemArray.scalar (sig.barrier 0 rfl), w24, w8⟩)
          -∗ WP c (k0_part1 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7) Kt) := by
  rw [k0_part1_eq_skeleton]; unfold k0_part1_skel
  simp only [semSignalWord, semWaitWord, Prog.lift, Prog.bind_op, Prog.bind_ret, Prog.pure_eq_ret, wp_deviceId]
  iintro ⟨#HR, HO, HS⟩ Hk
  iapply (wp_sig m ρ K c 0 Finset.univ Finset.univ (s := Finset.univ.filter (fun r : Fin 7 => 0 ≤ r.val)) (s' := Finset.univ.filter (fun r : Fin 7 => 1 ≤ r.val)) (by decide) (by decide) _ (Fin.ext (k0_dev1_eq c))) $$ [HO HS]
  · isplitr; · iexact HR
    isplitl [HO]; · iexact HO
    iexact HS
  iintro ⟨HO, HS⟩
  iapply (wp_sig m ρ K c 1 Finset.univ Finset.univ (s := Finset.univ.filter (fun r : Fin 7 => 1 ≤ r.val)) (s' := Finset.univ.filter (fun r : Fin 7 => 2 ≤ r.val)) (by decide) (by decide) _ (Fin.ext (k0_dev2_eq c))) $$ [HO HS]
  · isplitr; · iexact HR
    isplitl [HO]; · iexact HO
    iexact HS
  iintro ⟨HO, HS⟩
  iapply (wp_sig m ρ K c 2 Finset.univ Finset.univ (s := Finset.univ.filter (fun r : Fin 7 => 2 ≤ r.val)) (s' := Finset.univ.filter (fun r : Fin 7 => 3 ≤ r.val)) (by decide) (by decide) _ (Fin.ext (k0_dev3_eq c))) $$ [HO HS]
  · isplitr; · iexact HR
    isplitl [HO]; · iexact HO
    iexact HS
  iintro ⟨HO, HS⟩
  iapply (wp_sig m ρ K c 3 Finset.univ Finset.univ (s := Finset.univ.filter (fun r : Fin 7 => 3 ≤ r.val)) (s' := Finset.univ.filter (fun r : Fin 7 => 4 ≤ r.val)) (by decide) (by decide) _ (Fin.ext (k0_dev4_eq c))) $$ [HO HS]
  · isplitr; · iexact HR
    isplitl [HO]; · iexact HO
    iexact HS
  iintro ⟨HO, HS⟩
  iapply (wp_sig m ρ K c 4 Finset.univ Finset.univ (s := Finset.univ.filter (fun r : Fin 7 => 4 ≤ r.val)) (s' := Finset.univ.filter (fun r : Fin 7 => 5 ≤ r.val)) (by decide) (by decide) _ (Fin.ext (k0_dev5_eq c))) $$ [HO HS]
  · isplitr; · iexact HR
    isplitl [HO]; · iexact HO
    iexact HS
  iintro ⟨HO, HS⟩
  rw [WP_ret]; imodintro
  iapply Hk
  isplitl [HO]; · iexact HO
  iexact HS

set_option maxHeartbeats 1600000 in
/-- The last two signals, the wait for the seven signals to this device, and the queries. -/
theorem part2 (w2 w24 w8 : BitVec 32) {Kt : _ → sProp 𝕄} :
    iprop(recs m ρ K ∗ ow c (owing c (Finset.univ.filter (fun r : Fin 7 => 5 ≤ r.val)) Finset.univ Finset.univ) ∗ prog (Finset.univ.filter (fun r : Fin 7 => 5 ≤ r.val)) (sigA (F := F) c) (sigB (F := F))
        ∗ cred (tallyAt (barCell c) () 7) ∗ atPos ER (barCell c) 0 ∅ 0 ∗ xPts m ρ c ∗ wqPts m ρ c)
      ⊢ iprop((∀ w41 w45 w49 w51, (ow c (owing c ∅ Finset.univ Finset.univ) ∗ semVal (barCell c) 0 ∗ bigSep Finset.univ (fun r => barPay (F := F) c r) ∗ xPts m ρ c ∗ wqPts m ρ c) -∗ Kt ⟨qv m ρ c, w41, w45, w49, w51⟩)
          -∗ WP c (k0_part2 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c w2 (SemArray.scalar (sig.barrier 0 rfl)) w24 w8) Kt) := by
  rw [k0_part2_eq_skeleton]; unfold k0_part2_skel
  simp only [semSignalWord, semWaitWord, Prog.lift, Prog.bind_op, Prog.bind_ret, Prog.pure_eq_ret, wp_deviceId]
  iintro ⟨#HR, HO, HS, Hc, Hat, Hx, Hq⟩ Hk
  iapply (wp_sig m ρ K c 5 Finset.univ Finset.univ (s := Finset.univ.filter (fun r : Fin 7 => 5 ≤ r.val)) (s' := Finset.univ.filter (fun r : Fin 7 => 6 ≤ r.val)) (by decide) (by decide) _ (Fin.ext (k0_dev6_eq c))) $$ [HO HS]
  · isplitr; · iexact HR
    isplitl [HO]; · iexact HO
    iexact HS
  iintro ⟨HO, HS⟩
  iapply (wp_sig m ρ K c 6 Finset.univ Finset.univ (s := Finset.univ.filter (fun r : Fin 7 => 6 ≤ r.val)) (s' := Finset.univ.filter (fun r : Fin 7 => 7 ≤ r.val)) (by decide) (by decide) _ (Fin.ext (k0_dev7_eq c))) $$ [HO HS]
  · isplitr; · iexact HR
    isplitl [HO]; · iexact HO
    iexact HS
  iintro ⟨HO, HS⟩
  rw [show (Finset.univ.filter (fun r : Fin 7 => 7 ≤ r.val)) = ∅ from by decide]
  iapply (wp_barwait m ρ K c Finset.univ Finset.univ) $$ [HO Hc Hat]
  · isplitr; · iexact HR
    isplitl [HO]; · iexact HO
    isplitl [Hc]; · iexact Hc
    iexact Hat
  iintro ⟨HO, Hz, Hp⟩
  iapply (wp_ld_x m ρ c) $$ Hx; iintro Hx
  iapply (wp_ld_wq m ρ c) $$ Hq; iintro Hq
  rw [WP_ret, show k0_pay1 (xstg m ρ c) (wqstg m ρ c) = qv m ρ c from rfl]; imodintro
  iapply Hk
  isplitl [HO]; · iexact HO
  isplitl [Hz]; · iexact Hz
  isplitl [Hp]; · iexact Hp
  isplitl [Hx]; · iexact Hx
  iexact Hq

/-- Half 0, head 0. -/
theorem part3 (w2 w51 : BitVec 32) {Kt : _ → sProp 𝕄} :
    half m ρ c 0 0
      ⊢ iprop((∀ w53 w57 w61 w65, half m ρ c 0 1 -∗ Kt ⟨w53, w57, w61, w65, k0_pay3 (qv m ρ c) (kv m ρ c 0), k0_pay5 (qv m ρ c)⟩)
          -∗ WP c (k0_part3 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 w2 (qv m ρ c) w51) Kt) := by
  rw [k0_part3_eq_skeleton]; unfold k0_part3_skel
  simp only [semSignalWord, semWaitWord, Prog.lift, Prog.bind_op, Prog.bind_ret, Prog.pure_eq_ret, wp_deviceId]
  unfold half
  iintro ⟨HK, HV, HH⟩ Hk
  iapply (wp_ld_k m ρ c 0 rfl) $$ HK; iintro HK
  iapply (wp_ld_v m ρ c 0 rfl) $$ HV; iintro HV
  iapply (wp_dl_head m ρ c 0 0 rfl) $$ HH; iintro HH
  iapply (wp_st_head m ρ c 0 0 (n := 0) (n' := 1) rfl rfl rfl (by rfl)) $$ HH; iintro HH
  rw [WP_ret]; imodintro
  iapply Hk
  isplitl [HK]; · iexact HK
  isplitl [HV]; · iexact HV
  iexact HH

/-- Half 0, heads 1 and 2. -/
theorem part4 {Kt : _ → sProp 𝕄} :
    half m ρ c 0 1
      ⊢ iprop((half m ρ c 0 3 -∗ Kt ⟨k0_pay7 (k0_pay5 (qv m ρ c)) (kv m ρ c 0), k0_pay10 (qv m ρ c) (kv m ρ c 0), k0_pay12 (qv m ρ c), kv m ρ c 0⟩)
          -∗ WP c (k0_part4 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 (qv m ρ c) (k0_pay5 (qv m ρ c))) Kt) := by
  rw [k0_part4_eq_skeleton]; unfold k0_part4_skel
  simp only [semSignalWord, semWaitWord, Prog.lift, Prog.bind_op, Prog.bind_ret, Prog.pure_eq_ret, wp_deviceId]
  unfold half
  iintro ⟨HK, HV, HH⟩ Hk
  iapply (wp_ld_k m ρ c 0 rfl) $$ HK; iintro HK
  iapply (wp_ld_v m ρ c 0 rfl) $$ HV; iintro HV
  iapply (wp_dl_head m ρ c 0 1 rfl) $$ HH; iintro HH
  iapply (wp_st_head m ρ c 0 1 (n := 1) (n' := 2) rfl rfl rfl (by rfl)) $$ HH; iintro HH
  iapply (wp_ld_k m ρ c 0 rfl) $$ HK; iintro HK
  iapply (wp_ld_v m ρ c 0 rfl) $$ HV; iintro HV
  iapply (wp_dl_head m ρ c 0 2 rfl) $$ HH; iintro HH
  iapply (wp_st_head m ρ c 0 2 (n := 2) (n' := 3) rfl rfl rfl (by rfl)) $$ HH; iintro HH
  iapply (wp_ld_k m ρ c 0 rfl) $$ HK; iintro HK
  rw [WP_ret]; imodintro
  iapply Hk
  isplitl [HK]; · iexact HK
  isplitl [HV]; · iexact HV
  iexact HH

/-- Half 0, heads 3 and 4. -/
theorem part5 {Kt : _ → sProp 𝕄} :
    half m ρ c 0 3
      ⊢ iprop((half m ρ c 0 5 -∗ Kt ⟨k0_pay14 (k0_pay12 (qv m ρ c)) (kv m ρ c 0), k0_pay17 (qv m ρ c) (kv m ρ c 1), k0_pay19 (qv m ρ c) (kv m ρ c 1)⟩)
          -∗ WP c (k0_part5 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 (qv m ρ c) (k0_pay12 (qv m ρ c)) (kv m ρ c 0)) Kt) := by
  rw [k0_part5_eq_skeleton]; unfold k0_part5_skel
  simp only [semSignalWord, semWaitWord, Prog.lift, Prog.bind_op, Prog.bind_ret, Prog.pure_eq_ret, wp_deviceId]
  unfold half
  iintro ⟨HK, HV, HH⟩ Hk
  iapply (wp_ld_v m ρ c 0 rfl) $$ HV; iintro HV
  iapply (wp_dl_head m ρ c 0 3 rfl) $$ HH; iintro HH
  iapply (wp_st_head m ρ c 0 3 (n := 3) (n' := 4) rfl rfl rfl (by rfl)) $$ HH; iintro HH
  iapply (wp_ld_k m ρ c 1 rfl) $$ HK; iintro HK
  iapply (wp_ld_v m ρ c 1 rfl) $$ HV; iintro HV
  iapply (wp_dl_head m ρ c 0 4 rfl) $$ HH; iintro HH
  iapply (wp_st_head m ρ c 0 4 (n := 4) (n' := 5) rfl rfl rfl (by rfl)) $$ HH; iintro HH
  iapply (wp_ld_k m ρ c 1 rfl) $$ HK; iintro HK
  rw [WP_ret]; imodintro
  iapply Hk
  isplitl [HK]; · iexact HK
  isplitl [HV]; · iexact HV
  iexact HH

/-- Half 0, heads 5 and 6. -/
theorem part6 {Kt : _ → sProp 𝕄} :
    half m ρ c 0 5
      ⊢ iprop((half m ρ c 0 7 -∗ Kt ⟨k0_pay20 (k0_pay19 (qv m ρ c) (kv m ρ c 1)), k0_pay23 (qv m ρ c) (kv m ρ c 1), k0_pay25 (qv m ρ c) (kv m ρ c 1), k0_pay26 (qv m ρ c) (kv m ρ c 1)⟩)
          -∗ WP c (k0_part6 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 (qv m ρ c) (k0_pay19 (qv m ρ c) (kv m ρ c 1))) Kt) := by
  rw [k0_part6_eq_skeleton]; unfold k0_part6_skel
  simp only [semSignalWord, semWaitWord, Prog.lift, Prog.bind_op, Prog.bind_ret, Prog.pure_eq_ret, wp_deviceId]
  unfold half
  iintro ⟨HK, HV, HH⟩ Hk
  iapply (wp_ld_v m ρ c 1 rfl) $$ HV; iintro HV
  iapply (wp_dl_head m ρ c 0 5 rfl) $$ HH; iintro HH
  iapply (wp_st_head m ρ c 0 5 (n := 5) (n' := 6) rfl rfl rfl (by rfl)) $$ HH; iintro HH
  iapply (wp_ld_k m ρ c 1 rfl) $$ HK; iintro HK
  iapply (wp_ld_v m ρ c 1 rfl) $$ HV; iintro HV
  iapply (wp_dl_head m ρ c 0 6 rfl) $$ HH; iintro HH
  iapply (wp_st_head m ρ c 0 6 (n := 6) (n' := 7) rfl rfl rfl (by rfl)) $$ HH; iintro HH
  iapply (wp_ld_k m ρ c 1 rfl) $$ HK; iintro HK
  rw [WP_ret]; imodintro
  iapply Hk
  isplitl [HK]; · iexact HK
  isplitl [HV]; · iexact HV
  iexact HH

/-! The conditions: send `r` is made by the half in which the target's block lies. -/

theorem cond1 : ∀ c : Dev nD, k0_cond1 c = 1#1 ↔ (dn c 0).val / 4 = (0 : Fin 2).val := by decide +kernel
theorem cond2 : ∀ c : Dev nD, k0_cond2 c = 1#1 ↔ (dn c 1).val / 4 = (0 : Fin 2).val := by decide +kernel
theorem cond3 : ∀ c : Dev nD, k0_cond3 c = 1#1 ↔ (dn c 2).val / 4 = (0 : Fin 2).val := by decide +kernel
theorem cond4 : ∀ c : Dev nD, k0_cond4 c = 1#1 ↔ (dn c 3).val / 4 = (0 : Fin 2).val := by decide +kernel
theorem cond5 : ∀ c : Dev nD, k0_cond5 c = 1#1 ↔ (dn c 4).val / 4 = (0 : Fin 2).val := by decide +kernel
theorem cond6 : ∀ c : Dev nD, k0_cond6 c = 1#1 ↔ (dn c 5).val / 4 = (0 : Fin 2).val := by decide +kernel
theorem cond7 : ∀ c : Dev nD, k0_cond7 c = 1#1 ↔ (dn c 6).val / 4 = (0 : Fin 2).val := by decide +kernel
theorem cond8 : ∀ c : Dev nD, k0_cond8 c = 1#1 ↔ (dn c 0).val / 4 = (1 : Fin 2).val := by decide +kernel
theorem cond9 : ∀ c : Dev nD, k0_cond9 c = 1#1 ↔ (dn c 1).val / 4 = (1 : Fin 2).val := by decide +kernel
theorem cond10 : ∀ c : Dev nD, k0_cond10 c = 1#1 ↔ (dn c 2).val / 4 = (1 : Fin 2).val := by decide +kernel
theorem cond11 : ∀ c : Dev nD, k0_cond11 c = 1#1 ↔ (dn c 3).val / 4 = (1 : Fin 2).val := by decide +kernel
theorem cond12 : ∀ c : Dev nD, k0_cond12 c = 1#1 ↔ (dn c 4).val / 4 = (1 : Fin 2).val := by decide +kernel
theorem cond13 : ∀ c : Dev nD, k0_cond13 c = 1#1 ↔ (dn c 5).val / 4 = (1 : Fin 2).val := by decide +kernel
theorem cond14 : ∀ c : Dev nD, k0_cond14 c = 1#1 ↔ (dn c 6).val / 4 = (1 : Fin 2).val := by decide +kernel

theorem dn_inj (r r' : Fin 7) (h : dn c r = dn c r') : r = r' := by revert c r r'; decide +kernel
theorem halfB_split (a : Fin 2) : halfB a = (remB c a 0).map ⟨dn c, fun r r' h => dn_inj c r r' h⟩ ∪ (halfB a).filter (fun b => b = c) := by revert c a; decide +kernel
theorem dn_ne (r : Fin 7) : dn c r ≠ c := by revert c r; decide

theorem remS_first : remS c 0 0 = Finset.univ := by revert c; decide +kernel
theorem remS_next : remS c 1 0 = remS c 0 7 := by revert c; decide +kernel
theorem remS_last : remS c 1 7 = ∅ := by revert c; decide +kernel
theorem remB_last (a : Fin 2) : remB c a 7 = ∅ := by revert c a; decide +kernel

/-- The device's own block, if it lies in half `a`. -/
def ownB (a : Fin 2) : sProp 𝕄 := bigSep ((halfB a).filter fun b => b = c) (fun b => blkFull m ρ c b)

/-- A filled half is the blocks its sends take, and the device's own block if it lies there. -/
theorem blocks_split (a : Fin 2) :
    (bigSep (halfB a) (fun b => blkFull m ρ c b) : sProp 𝕄) ⊢ iprop(bigSep (remB c a 0) (fun r => blkFull m ρ c (dn c r)) ∗ ownB m ρ c a) := by
  have hd : Disjoint ((remB c a 0).map ⟨dn c, fun r r' h => dn_inj c r r' h⟩) ((halfB a).filter fun b => b = c) := by
    rw [Finset.disjoint_left]
    intro b hb hb'
    obtain ⟨r, -, hr⟩ := Finset.mem_map.mp hb
    exact dn_ne c r (hr.trans (Finset.mem_filter.mp hb').2)
  have h1 : (bigSep (halfB a) (fun b => blkFull m ρ c b) : sProp 𝕄)
      = iprop(bigSep ((remB c a 0).map ⟨dn c, fun r r' h => dn_inj c r r' h⟩) (fun b => blkFull m ρ c b) ∗ ownB m ρ c a) := by
    unfold ownB
    conv_lhs => rw [halfB_split c a]
    exact bigSep_union hd
  rw [h1, bigSep_map]; exact BI.Entails.refl _

set_option maxHeartbeats 1600000 in
/-- Half 0, head 7 and the sums; its first three sends. -/
theorem part7 (w41 w45 w49 w53 : BitVec 32) {Kt : _ → sProp 𝕄} :
    iprop(recs m ρ K ∗ half m ρ c 0 7 ∗ ow c (owing c ∅ Finset.univ Finset.univ) ∗ prog Finset.univ (s1A (F := F) c) (s1B (F := F) c))
      ⊢ iprop((∀ w, (kPts m ρ c ∗ vPts m ρ c ∗ sendSt m ρ c 0 3 ∗ ownB m ρ c 0) -∗ Kt w)
          -∗ WP c (k0_part7 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c w41 w45 w49 w53 (k0_pay3 (qv m ρ c) (kv m ρ c 0)) (k0_pay7 (k0_pay5 (qv m ρ c)) (kv m ρ c 0)) (k0_pay10 (qv m ρ c) (kv m ρ c 0)) (k0_pay14 (k0_pay12 (qv m ρ c)) (kv m ρ c 0)) (k0_pay17 (qv m ρ c) (kv m ρ c 1)) (k0_pay20 (k0_pay19 (qv m ρ c) (kv m ρ c 1))) (k0_pay23 (qv m ρ c) (kv m ρ c 1)) (k0_pay25 (qv m ρ c) (kv m ρ c 1)) (k0_pay26 (qv m ρ c) (kv m ρ c 1))) Kt) := by
  rw [k0_part7_eq_skeleton]; unfold k0_part7_skel
  simp only [semSignalWord, semWaitWord, Prog.lift, Prog.bind_op, Prog.bind_ret, Prog.pure_eq_ret, wp_deviceId]
  iintro ⟨#HR, Hh, HO, HP⟩ Hk
  unfold half
  icases Hh with ⟨HK, HV, HH⟩
  iapply (wp_ld_v m ρ c 1 rfl) $$ HV; iintro HV
  iapply (wp_dl_head m ρ c 0 7 rfl) $$ HH; iintro HH
  iapply (wp_st_head m ρ c 0 7 (n := 7) (n' := 8) rfl rfl rfl (by rfl)) $$ HH; iintro HH
  iapply (wp_st_sums m ρ c 0 rfl (by rfl)) $$ HH; iintro HB
  ihave HB := (blocks_split m ρ c 0) $$ HB
  icases HB with ⟨HB, Hown⟩
  ihave HS : sendSt m ρ c 0 0 $$ [HO HP HB]
  · unfold sendSt; rw [remS_first c]
    isplitl [HO]; · iexact HO
    isplitl [HP]; · iexact HP
    iexact HB
  iapply (wp_send1_if m ρ K c 0 0 (n₀ := 0) (n₁ := 1) rfl rfl (cond1 c) _ (fun _ => slice_blk (dn c 0) (k0_off1_eq c) _) _ (fun _ => Fin.ext (k0_dev8_eq c))
    (p1S 0) rfl (dsem 0 0) (dsem 1 0) rfl rfl) $$ [HS]
  · isplitr; · iexact HR
    iexact HS
  iintro HS
  iapply (wp_send1_if m ρ K c 0 1 (n₀ := 1) (n₁ := 2) rfl rfl (cond2 c) _ (fun _ => slice_blk (dn c 1) (k0_off2_eq c) _) _ (fun _ => Fin.ext (k0_dev9_eq c))
    (p1S 1) rfl (dsem 0 1) (dsem 1 1) rfl rfl) $$ [HS]
  · isplitr; · iexact HR
    iexact HS
  iintro HS
  iapply (wp_send1_if m ρ K c 0 2 (n₀ := 2) (n₁ := 3) rfl rfl (cond3 c) _ (fun _ => slice_blk (dn c 2) (k0_off3_eq c) _) _ (fun _ => Fin.ext (k0_dev10_eq c))
    (p1S 2) rfl (dsem 0 2) (dsem 1 2) rfl rfl) $$ [HS]
  · isplitr; · iexact HR
    iexact HS
  iintro HS
  rw [WP_ret]; imodintro
  iapply Hk
  isplitl [HK]; · iexact HK
  isplitl [HV]; · iexact HV
  isplitl [HS]; · iexact HS
  iexact Hown

set_option maxHeartbeats 1600000 in
/-- The other sends of half 0; half 1 starts. -/
theorem part8 (w53 w57 w61 w65 : BitVec 32) (w : BitVec 1) {Kt : _ → sProp 𝕄} :
    iprop(recs m ρ K ∗ kPts m ρ c ∗ sendSt m ρ c 0 3)
      ⊢ iprop(((kPts m ρ c ∗ sendSt m ρ c 0 7) -∗ Kt ⟨k0_pay29 (qv m ρ c) (kv m ρ c 0), k0_pay30 (qv m ρ c) (kv m ρ c 0)⟩)
          -∗ WP c (k0_part8 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c (qv m ρ c) w53 w57 w61 w65 w) Kt) := by
  rw [k0_part8_eq_skeleton]; unfold k0_part8_skel
  simp only [semSignalWord, semWaitWord, Prog.lift, Prog.bind_op, Prog.bind_ret, Prog.pure_eq_ret, wp_deviceId]
  iintro ⟨#HR, HK, HS⟩ Hk
  iapply (wp_send1_if m ρ K c 0 3 (n₀ := 3) (n₁ := 4) rfl rfl (cond4 c) _ (fun _ => slice_blk (dn c 3) (k0_off4_eq c) _) _ (fun _ => Fin.ext (k0_dev11_eq c))
    (p1S 3) rfl (dsem 0 3) (dsem 1 3) rfl rfl) $$ [HS]
  · isplitr; · iexact HR
    iexact HS
  iintro HS
  iapply (wp_send1_if m ρ K c 0 4 (n₀ := 4) (n₁ := 5) rfl rfl (cond5 c) _ (fun _ => slice_blk (dn c 4) (k0_off5_eq c) _) _ (fun _ => Fin.ext (k0_dev12_eq c))
    (p1S 4) rfl (dsem 0 4) (dsem 1 4) rfl rfl) $$ [HS]
  · isplitr; · iexact HR
    iexact HS
  iintro HS
  iapply (wp_send1_if m ρ K c 0 5 (n₀ := 5) (n₁ := 6) rfl rfl (cond6 c) _ (fun _ => slice_blk (dn c 5) (k0_off6_eq c) _) _ (fun _ => Fin.ext (k0_dev13_eq c))
    (p1S 5) rfl (dsem 0 5) (dsem 1 5) rfl rfl) $$ [HS]
  · isplitr; · iexact HR
    iexact HS
  iintro HS
  iapply (wp_send1_if m ρ K c 0 6 (n₀ := 6) (n₁ := 7) rfl rfl (cond7 c) _ (fun _ => slice_blk (dn c 6) (k0_off7_eq c) _) _ (fun _ => Fin.ext (k0_dev14_eq c))
    (p1S 6) rfl (dsem 0 6) (dsem 1 6) rfl rfl) $$ [HS]
  · isplitr; · iexact HR
    iexact HS
  iintro HS
  iapply (wp_ld_k m ρ c 0 rfl) $$ HK; iintro HK
  rw [WP_ret]; imodintro
  iapply Hk
  isplitl [HK]; · iexact HK
  iexact HS

/-- Half 1, heads 0 and 1. -/
theorem part9 {Kt : _ → sProp 𝕄} :
    half m ρ c 1 0
      ⊢ iprop((half m ρ c 1 2 -∗ Kt ⟨k0_pay33 (qv m ρ c) (kv m ρ c 0), k0_pay35 (qv m ρ c) (kv m ρ c 0), k0_pay36 (qv m ρ c) (kv m ρ c 0), vv m ρ c 0⟩)
          -∗ WP c (k0_part9 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 (qv m ρ c) (k0_pay29 (qv m ρ c) (kv m ρ c 0))) Kt) := by
  rw [k0_part9_eq_skeleton]; unfold k0_part9_skel
  simp only [semSignalWord, semWaitWord, Prog.lift, Prog.bind_op, Prog.bind_ret, Prog.pure_eq_ret, wp_deviceId]
  unfold half
  iintro ⟨HK, HV, HH⟩ Hk
  iapply (wp_ld_v m ρ c 0 rfl) $$ HV; iintro HV
  iapply (wp_dl_head m ρ c 1 0 rfl) $$ HH; iintro HH
  iapply (wp_st_head m ρ c 1 0 (n := 0) (n' := 1) rfl rfl rfl (by rfl)) $$ HH; iintro HH
  iapply (wp_ld_k m ρ c 0 rfl) $$ HK; iintro HK
  iapply (wp_ld_v m ρ c 0 rfl) $$ HV; iintro HV
  iapply (wp_dl_head m ρ c 1 1 rfl) $$ HH; iintro HH
  iapply (wp_st_head m ρ c 1 1 (n := 1) (n' := 2) rfl rfl rfl (by rfl)) $$ HH; iintro HH
  iapply (wp_ld_k m ρ c 0 rfl) $$ HK; iintro HK
  iapply (wp_ld_v m ρ c 0 rfl) $$ HV; iintro HV
  rw [WP_ret]; imodintro
  iapply Hk
  isplitl [HK]; · iexact HK
  isplitl [HV]; · iexact HV
  iexact HH

/-- Half 1, heads 2 and 3. -/
theorem part10 {Kt : _ → sProp 𝕄} :
    half m ρ c 1 2
      ⊢ iprop((half m ρ c 1 4 -∗ Kt ⟨k0_pay39 (qv m ρ c) (kv m ρ c 0), k0_pay42 (qv m ρ c) (kv m ρ c 1), k0_pay43 (qv m ρ c) (kv m ρ c 1) (vv m ρ c 1)⟩)
          -∗ WP c (k0_part10 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 (qv m ρ c) (k0_pay35 (qv m ρ c) (kv m ρ c 0)) (vv m ρ c 0)) Kt) := by
  rw [k0_part10_eq_skeleton]; unfold k0_part10_skel
  simp only [semSignalWord, semWaitWord, Prog.lift, Prog.bind_op, Prog.bind_ret, Prog.pure_eq_ret, wp_deviceId]
  unfold half
  iintro ⟨HK, HV, HH⟩ Hk
  iapply (wp_dl_head m ρ c 1 2 rfl) $$ HH; iintro HH
  iapply (wp_st_head m ρ c 1 2 (n := 2) (n' := 3) rfl rfl rfl (by rfl)) $$ HH; iintro HH
  iapply (wp_ld_k m ρ c 0 rfl) $$ HK; iintro HK
  iapply (wp_ld_v m ρ c 0 rfl) $$ HV; iintro HV
  iapply (wp_dl_head m ρ c 1 3 rfl) $$ HH; iintro HH
  iapply (wp_st_head m ρ c 1 3 (n := 3) (n' := 4) rfl rfl rfl (by rfl)) $$ HH; iintro HH
  iapply (wp_ld_k m ρ c 1 rfl) $$ HK; iintro HK
  iapply (wp_ld_v m ρ c 1 rfl) $$ HV; iintro HV
  rw [WP_ret]; imodintro
  iapply Hk
  isplitl [HK]; · iexact HK
  isplitl [HV]; · iexact HV
  iexact HH

/-- Half 1, heads 4 and 5. -/
theorem part11 {Kt : _ → sProp 𝕄} :
    half m ρ c 1 4
      ⊢ iprop((half m ρ c 1 6 -∗ Kt ⟨k0_pay46 (qv m ρ c) (kv m ρ c 1), k0_pay49 (qv m ρ c) (kv m ρ c 1), k0_pay50 (qv m ρ c) (kv m ρ c 1) (vv m ρ c 1)⟩)
          -∗ WP c (k0_part11 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 (qv m ρ c) (k0_pay43 (qv m ρ c) (kv m ρ c 1) (vv m ρ c 1))) Kt) := by
  rw [k0_part11_eq_skeleton]; unfold k0_part11_skel
  simp only [semSignalWord, semWaitWord, Prog.lift, Prog.bind_op, Prog.bind_ret, Prog.pure_eq_ret, wp_deviceId]
  unfold half
  iintro ⟨HK, HV, HH⟩ Hk
  iapply (wp_dl_head m ρ c 1 4 rfl) $$ HH; iintro HH
  iapply (wp_st_head m ρ c 1 4 (n := 4) (n' := 5) rfl rfl rfl (by rfl)) $$ HH; iintro HH
  iapply (wp_ld_k m ρ c 1 rfl) $$ HK; iintro HK
  iapply (wp_ld_v m ρ c 1 rfl) $$ HV; iintro HV
  iapply (wp_dl_head m ρ c 1 5 rfl) $$ HH; iintro HH
  iapply (wp_st_head m ρ c 1 5 (n := 5) (n' := 6) rfl rfl rfl (by rfl)) $$ HH; iintro HH
  iapply (wp_ld_k m ρ c 1 rfl) $$ HK; iintro HK
  iapply (wp_ld_v m ρ c 1 rfl) $$ HV; iintro HV
  iapply (wp_dl_head m ρ c 1 6 rfl) $$ HH; iintro HH
  rw [WP_ret]; imodintro
  iapply Hk
  isplitl [HK]; · iexact HK
  isplitl [HV]; · iexact HV
  iexact HH

set_option maxHeartbeats 1600000 in
/-- Half 1, heads 6 and 7 and the sums; its first send. -/
theorem part12 (w41 w45 : BitVec 32) {Kt : _ → sProp 𝕄} :
    iprop(recs m ρ K ∗ half m ρ c 1 6 ∗ sendSt m ρ c 0 7)
      ⊢ iprop((∀ w344 w0, (kPts m ρ c ∗ vPts m ρ c ∗ sendSt m ρ c 1 1 ∗ ownB m ρ c 1) -∗ Kt ⟨w344, w0⟩)
          -∗ WP c (k0_part12 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c (qv m ρ c) w41 w45 (k0_pay30 (qv m ρ c) (kv m ρ c 0)) (k0_pay33 (qv m ρ c) (kv m ρ c 0)) (k0_pay36 (qv m ρ c) (kv m ρ c 0)) (k0_pay39 (qv m ρ c) (kv m ρ c 0)) (k0_pay42 (qv m ρ c) (kv m ρ c 1)) (k0_pay46 (qv m ρ c) (kv m ρ c 1)) (k0_pay49 (qv m ρ c) (kv m ρ c 1)) (k0_pay50 (qv m ρ c) (kv m ρ c 1) (vv m ρ c 1))) Kt) := by
  rw [k0_part12_eq_skeleton]; unfold k0_part12_skel
  simp only [semSignalWord, semWaitWord, Prog.lift, Prog.bind_op, Prog.bind_ret, Prog.pure_eq_ret, wp_deviceId]
  iintro ⟨#HR, Hh, HS⟩ Hk
  unfold half
  icases Hh with ⟨HK, HV, HH⟩
  iapply (wp_st_head m ρ c 1 6 (n := 6) (n' := 7) rfl rfl rfl (by rfl)) $$ HH; iintro HH
  iapply (wp_ld_k m ρ c 1 rfl) $$ HK; iintro HK
  iapply (wp_ld_v m ρ c 1 rfl) $$ HV; iintro HV
  iapply (wp_dl_head m ρ c 1 7 rfl) $$ HH; iintro HH
  iapply (wp_st_head m ρ c 1 7 (n := 7) (n' := 8) rfl rfl rfl (by rfl)) $$ HH; iintro HH
  iapply (wp_st_sums m ρ c 1 rfl (by rfl)) $$ HH; iintro HB
  ihave HB := (blocks_split m ρ c 1) $$ HB
  icases HB with ⟨HB, Hown⟩
  ihave HS := (Entails.of_eq (show sendSt m ρ c 0 7 = iprop(_ ∗ _ ∗ _) from rfl)) $$ HS
  icases HS with ⟨HO, HP, HE⟩
  ihave HS : sendSt m ρ c 1 0 $$ [HO HP HB]
  · unfold sendSt; rw [remS_next c]
    isplitl [HO]; · iexact HO
    isplitl [HP]; · iexact HP
    iexact HB
  iapply (wp_send1_if m ρ K c 1 0 (n₀ := 0) (n₁ := 1) rfl rfl (cond8 c) _ (fun _ => slice_blk (dn c 0) (k0_off8_eq c) _) _ (fun _ => Fin.ext (k0_dev15_eq c))
    (p1S 0) rfl (dsem 0 0) (dsem 1 0) rfl rfl) $$ [HS]
  · isplitr; · iexact HR
    iexact HS
  iintro HS
  rw [WP_ret]; imodintro
  iapply Hk
  isplitl [HK]; · iexact HK
  isplitl [HV]; · iexact HV
  isplitl [HS]; · iexact HS
  iexact Hown

set_option maxHeartbeats 1600000 in
/-- The next five sends of half 1. -/
theorem part13 (w45 w49 w53 w57 w61 w65 w344 w0 : BitVec 32) {Kt : _ → sProp 𝕄} :
    iprop(recs m ρ K ∗ sendSt m ρ c 1 1)
      ⊢ iprop((∀ w369 w0, sendSt m ρ c 1 6 -∗ Kt ⟨w369, w0⟩)
          -∗ WP c (k0_part13 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c w45 w49 w53 w57 w61 w65 w344 w0) Kt) := by
  rw [k0_part13_eq_skeleton]; unfold k0_part13_skel
  simp only [semSignalWord, semWaitWord, Prog.lift, Prog.bind_op, Prog.bind_ret, Prog.pure_eq_ret, wp_deviceId]
  iintro ⟨#HR, HS⟩ Hk
  iapply (wp_send1_if m ρ K c 1 1 (n₀ := 1) (n₁ := 2) rfl rfl (cond9 c) _ (fun _ => slice_blk (dn c 1) (k0_off9_eq c) _) _ (fun _ => Fin.ext (k0_dev16_eq c))
    (p1S 1) rfl (dsem 0 1) (dsem 1 1) rfl rfl) $$ [HS]
  · isplitr; · iexact HR
    iexact HS
  iintro HS
  iapply (wp_send1_if m ρ K c 1 2 (n₀ := 2) (n₁ := 3) rfl rfl (cond10 c) _ (fun _ => slice_blk (dn c 2) (k0_off10_eq c) _) _ (fun _ => Fin.ext (k0_dev17_eq c))
    (p1S 2) rfl (dsem 0 2) (dsem 1 2) rfl rfl) $$ [HS]
  · isplitr; · iexact HR
    iexact HS
  iintro HS
  iapply (wp_send1_if m ρ K c 1 3 (n₀ := 3) (n₁ := 4) rfl rfl (cond11 c) _ (fun _ => slice_blk (dn c 3) (k0_off11_eq c) _) _ (fun _ => Fin.ext (k0_dev18_eq c))
    (p1S 3) rfl (dsem 0 3) (dsem 1 3) rfl rfl) $$ [HS]
  · isplitr; · iexact HR
    iexact HS
  iintro HS
  iapply (wp_send1_if m ρ K c 1 4 (n₀ := 4) (n₁ := 5) rfl rfl (cond12 c) _ (fun _ => slice_blk (dn c 4) (k0_off12_eq c) _) _ (fun _ => Fin.ext (k0_dev19_eq c))
    (p1S 4) rfl (dsem 0 4) (dsem 1 4) rfl rfl) $$ [HS]
  · isplitr; · iexact HR
    iexact HS
  iintro HS
  iapply (wp_send1_if m ρ K c 1 5 (n₀ := 5) (n₁ := 6) rfl rfl (cond13 c) _ (fun _ => slice_blk (dn c 5) (k0_off13_eq c) _) _ (fun _ => Fin.ext (k0_dev20_eq c))
    (p1S 5) rfl (dsem 0 5) (dsem 1 5) rfl rfl) $$ [HS]
  · isplitr; · iexact HR
    iexact HS
  iintro HS
  rw [WP_ret]; imodintro
  iapply Hk
  iexact HS

end Cert.KernelIdeal.Attn
-- ==== Proof.Ideal.Parts2.lean ====
/-
# The body, part by part: the sum over the devices, the second exchange and the last waits
-/
module

public import proofs.«01_k».proof.Proof.Ideal.Parts

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kind → ℕ) (c : Dev nD)

theorem blk_credit {off : Fin 2 → Nat} (inb : ∀ x, off x + S32x1152.size x ≤ S256x1152.size x) (h) :
    ((myM : Memref sig .tc .vmem S256x1152 .bf16).slice (Rect.unit (s := S256x1152) off S32x1152.size inb) h).view.dmaCredit = Nof 0 :=
  (show _ = N1 from rfl).trans (show N1 = Nof 0 from (if_pos (by decide)).symm)
theorem os_credit : (osM : Memref sig .tc .vmem S32x1024 .bf16).view.dmaCredit = Nof 2 :=
  (show _ = N2 from rfl).trans (show N2 = Nof 2 from (if_neg (by decide)).symm)

/-- The transfers from `n` on. -/
abbrev ge7 (n : ℕ) : Finset (Fin 7) := Finset.univ.filter (fun r : Fin 7 => n ≤ r.val)
/-- The blocks of the result stored after `n` receives: the device's own, and those received. -/
def outS (n : ℕ) : Finset (Dev nD) := Finset.univ.filter fun b => b = c ∨ ∃ r : Fin 7, r.val < n ∧ b = up c r

theorem outS_zero : insert c ∅ = outS c 0 := by revert c; decide +kernel
theorem outS_seven : outS c 7 = Finset.univ := by revert c; decide +kernel
theorem outS_succ (r : Fin 7) : insert (up c r) (outS c r.val) = outS c (r.val + 1) := by revert c r; decide +kernel

/-- What the kernel computes from its own block and the seven it receives is its block of the result. -/
theorem outv_of_blocks {v : Vec F S32x1152 .bf16} {u0 u1 u2 u3 u4 u5 u6 : Vec F S1x32x1152 .bf16} (h : Blk m ρ c c v)
    (h0 : Blk m ρ (up c 0) c (shapeCast S32x1152 u0 shapeCasts_S1x32x1152_S32x1152)) (h1 : Blk m ρ (up c 1) c (shapeCast S32x1152 u1 shapeCasts_S1x32x1152_S32x1152))
    (h2 : Blk m ρ (up c 2) c (shapeCast S32x1152 u2 shapeCasts_S1x32x1152_S32x1152)) (h3 : Blk m ρ (up c 3) c (shapeCast S32x1152 u3 shapeCasts_S1x32x1152_S32x1152))
    (h4 : Blk m ρ (up c 4) c (shapeCast S32x1152 u4 shapeCasts_S1x32x1152_S32x1152)) (h5 : Blk m ρ (up c 5) c (shapeCast S32x1152 u5 shapeCasts_S1x32x1152_S32x1152))
    (h6 : Blk m ρ (up c 6) c (shapeCast S32x1152 u6 shapeCasts_S1x32x1152_S32x1152)) :
    k0_pay68 (k0_pay66 (k0_pay62 (k0_pay56 v u0) (k0_pay59 u1) u2 u3) u4 u5) (k0_pay67 (k0_pay63 (k0_pay57 v u0) (k0_pay58 u1) u2 u3) u4 u5) u6 (wostg m ρ c)
      = outv m ρ c := by
  unfold outv sumN sumD
  rw [← h.1, ← h.2, ← h0.1, ← h0.2, ← h1.1, ← h1.2, ← h2.1, ← h2.2, ← h3.1, ← h3.2, ← h4.1, ← h4.2, ← h5.1, ← h5.2, ← h6.1, ← h6.2]
  rfl

set_option maxHeartbeats 1600000 in
/-- The last send of half 1; the device's own block and the first two it receives. -/
theorem part14 (v2 v41 v45 v65 v369 w0 : BitVec 32) {Kt : _ → sProp 𝕄} :
    iprop(recs m ρ K ∗ sendSt m ρ c 1 6 ∗ blkFull m ρ c c ∗ prog (ge7 0) (wA (F := F) c 1) (rB (F := F) c 1))
      ⊢ iprop((∀ v u0 u1, ⌜Blk m ρ c c v⌝ -∗ ⌜Blk m ρ (up c 0) c (shapeCast S32x1152 u0 shapeCasts_S1x32x1152_S32x1152)⌝ -∗ ⌜Blk m ρ (up c 1) c (shapeCast S32x1152 u1 shapeCasts_S1x32x1152_S32x1152)⌝ -∗
        (ow c (owing c ∅ ∅ Finset.univ) ∗ prog ∅ (s1A (F := F) c) (s1B (F := F) c) ∗ blkFull m ρ c c ∗ prog (ge7 2) (wA (F := F) c 1) (rB (F := F) c 1)) -∗ Kt ⟨k0_pay56 v u0, k0_pay57 v u0, k0_pay58 u1, k0_pay59 u1⟩)
          -∗ WP c (k0_part14 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2 v41 v45 v65 v369 w0) Kt) := by
  rw [k0_part14_eq_skeleton]; unfold k0_part14_skel
  simp only [semSignalWord, semWaitWord, Prog.lift, Prog.bind_op, Prog.bind_ret, Prog.pure_eq_ret, wp_deviceId]
  iintro ⟨#HR, HS, HB, HP⟩ Hk
  iapply (wp_send1_if m ρ K c 1 6 (n₀ := 6) (n₁ := 7) rfl rfl (cond14 c) _ (fun _ => slice_blk (dn c 6) (k0_off14_eq c) _) _ (fun _ => Fin.ext (k0_dev21_eq c))
    (p1S 6) rfl (dsem 0 6) (dsem 1 6) rfl rfl) $$ [HS]
  · isplitr; · iexact HR
    iexact HS
  iintro HS
  ihave HS := (Entails.of_eq (show sendSt m ρ c 1 7 = iprop(_ ∗ _ ∗ _) from rfl)) $$ HS
  icases HS with ⟨HO, HC, HE⟩
  rw [remS_last c]
  iapply (wp_ld_own m ρ c (k0_off15_eq c)) $$ HB
  iintro %v %hv HB
  iapply (wp_recv1 m ρ K c 0 Finset.univ (s := ge7 0) (s' := ge7 1) (by decide) (by decide) _ rfl _ (p1S 0) rfl rfl) $$ [HO HP]
  · isplitr; · iexact HR
    isplitl [HO]; · iexact HO
    iexact HP
  iintro %u0 %h0 ⟨HO, HP⟩
  iapply (wp_recv1 m ρ K c 1 Finset.univ (s := ge7 1) (s' := ge7 2) (by decide) (by decide) _ rfl _ (p1S 1) rfl rfl) $$ [HO HP]
  · isplitr; · iexact HR
    isplitl [HO]; · iexact HO
    iexact HP
  iintro %u1 %h1 ⟨HO, HP⟩
  rw [WP_ret]; imodintro
  iapply Hk $$ %v %u0 %u1 %hv %h0 %h1
  isplitl [HO]; · iexact HO
  isplitl [HC]; · iexact HC
  isplitl [HB]; · iexact HB
  iexact HP

set_option maxHeartbeats 1600000 in
/-- Receives 2 and 3. -/
theorem part15 (v49 v53 : BitVec 32) (v389 : FVec F S32x1024 .f32) (v392 : FVec F S32x8 .f32) (v401 : FVec F S32x1152 .bf16) (v402 : FVec F S32x1024 .bf16) {Kt : _ → sProp 𝕄} :
    iprop(recs m ρ K ∗ ow c (owing c ∅ ∅ Finset.univ) ∗ prog (ge7 2) (wA (F := F) c 1) (rB (F := F) c 1))
      ⊢ iprop((∀ u2 u3, ⌜Blk m ρ (up c 2) c (shapeCast S32x1152 u2 shapeCasts_S1x32x1152_S32x1152)⌝ -∗ ⌜Blk m ρ (up c 3) c (shapeCast S32x1152 u3 shapeCasts_S1x32x1152_S32x1152)⌝ -∗
        (ow c (owing c ∅ ∅ Finset.univ) ∗ prog (ge7 4) (wA (F := F) c 1) (rB (F := F) c 1)) -∗ Kt ⟨k0_pay62 v389 v402 u2 u3, k0_pay63 v392 v401 u2 u3⟩)
          -∗ WP c (k0_part15 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v49 v53 v389 v392 v401 v402) Kt) := by
  rw [k0_part15_eq_skeleton]; unfold k0_part15_skel
  simp only [semSignalWord, semWaitWord, Prog.lift, Prog.bind_op, Prog.bind_ret, Prog.pure_eq_ret, wp_deviceId]
  iintro ⟨#HR, HO, HP⟩ Hk
  iapply (wp_recv1 m ρ K c 2 Finset.univ (s := ge7 2) (s' := ge7 3) (by decide) (by decide) _ rfl _ (p1S 2) rfl rfl) $$ [HO HP]
  · isplitr; · iexact HR
    isplitl [HO]; · iexact HO
    iexact HP
  iintro %u2 %h2 ⟨HO, HP⟩
  iapply (wp_recv1 m ρ K c 3 Finset.univ (s := ge7 3) (s' := ge7 4) (by decide) (by decide) _ rfl _ (p1S 3) rfl rfl) $$ [HO HP]
  · isplitr; · iexact HR
    isplitl [HO]; · iexact HO
    iexact HP
  iintro %u3 %h3 ⟨HO, HP⟩
  rw [WP_ret]; imodintro
  iapply Hk $$ %u2 %u3 %h2 %h3
  isplitl [HO]; · iexact HO
  iexact HP

set_option maxHeartbeats 1600000 in
/-- Receives 4 and 5. -/
theorem part16 (v57 v61 v65 : BitVec 32) (v434 : FVec F S32x1024 .f32) (v437 : FVec F S32x8 .f32) {Kt : _ → sProp 𝕄} :
    iprop(recs m ρ K ∗ ow c (owing c ∅ ∅ Finset.univ) ∗ prog (ge7 4) (wA (F := F) c 1) (rB (F := F) c 1))
      ⊢ iprop((∀ u4 u5, ⌜Blk m ρ (up c 4) c (shapeCast S32x1152 u4 shapeCasts_S1x32x1152_S32x1152)⌝ -∗ ⌜Blk m ρ (up c 5) c (shapeCast S32x1152 u5 shapeCasts_S1x32x1152_S32x1152)⌝ -∗
        (ow c (owing c ∅ ∅ Finset.univ) ∗ prog (ge7 6) (wA (F := F) c 1) (rB (F := F) c 1)) -∗ Kt ⟨k0_pay66 v434 u4 u5, k0_pay67 v437 u4 u5⟩)
          -∗ WP c (k0_part16 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v57 v61 v65 v434 v437) Kt) := by
  rw [k0_part16_eq_skeleton]; unfold k0_part16_skel
  simp only [semSignalWord, semWaitWord, Prog.lift, Prog.bind_op, Prog.bind_ret, Prog.pure_eq_ret, wp_deviceId]
  iintro ⟨#HR, HO, HP⟩ Hk
  iapply (wp_recv1 m ρ K c 4 Finset.univ (s := ge7 4) (s' := ge7 5) (by decide) (by decide) _ rfl _ (p1S 4) rfl rfl) $$ [HO HP]
  · isplitr; · iexact HR
    isplitl [HO]; · iexact HO
    iexact HP
  iintro %u4 %h4 ⟨HO, HP⟩
  iapply (wp_recv1 m ρ K c 5 Finset.univ (s := ge7 5) (s' := ge7 6) (by decide) (by decide) _ rfl _ (p1S 5) rfl rfl) $$ [HO HP]
  · isplitr; · iexact HR
    isplitl [HO]; · iexact HO
    iexact HP
  iintro %u5 %h5 ⟨HO, HP⟩
  rw [WP_ret]; imodintro
  iapply Hk $$ %u4 %u5 %h4 %h5
  isplitl [HO]; · iexact HO
  iexact HP

set_option maxHeartbeats 1600000 in
/-- The last receive of the first exchange; the block of the result, stored and made ready to send. -/
theorem part17 (v2 : BitVec 32) (v464 : FVec F S32x1024 .f32) (v467 : FVec F S32x8 .f32)
    (hv : ∀ u6 : Vec F S1x32x1152 .bf16, Blk m ρ (up c 6) c (shapeCast S32x1152 u6 shapeCasts_S1x32x1152_S32x1152) → k0_pay68 v464 v467 u6 (wostg m ρ c) = outv m ρ c) {Kt : _ → sProp 𝕄} :
    iprop(recs m ρ K ∗ ow c (owing c ∅ ∅ Finset.univ) ∗ prog (ge7 6) (wA (F := F) c 1) (rB (F := F) c 1) ∗ woPts m ρ c ∗ outAt m ρ c ∅ ∗ osAny (F := F) c)
      ⊢ iprop((∀ w, (ow c (owing c ∅ ∅ Finset.univ) ∗ prog ∅ (wA (F := F) c 1) (rB (F := F) c 1) ∗ woPts m ρ c ∗ outAt m ρ c (outS c 0) ∗ bigSep Finset.univ (fun r => osPts m ρ c r)) -∗ Kt w)
          -∗ WP c (k0_part17 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2 v464 v467) Kt) := by
  rw [k0_part17_eq_skeleton]; unfold k0_part17_skel
  simp only [semSignalWord, semWaitWord, Prog.lift, Prog.bind_op, Prog.bind_ret, Prog.pure_eq_ret, wp_deviceId]
  iintro ⟨#HR, HO, HP, Hw, Hout, Hos⟩ Hk
  iapply (wp_recv1 m ρ K c 6 Finset.univ (s := ge7 6) (s' := ge7 7) (by decide) (by decide) _ rfl _ (p1S 6) rfl rfl) $$ [HO HP]
  · isplitr; · iexact HR
    isplitl [HO]; · iexact HO
    iexact HP
  iintro %u6 %h6 ⟨HO, HP⟩
  rw [show ge7 7 = ∅ from by decide]
  iapply (wp_ld_wo m ρ c) $$ Hw; iintro Hw
  iapply (wp_st_out m ρ c c (s := ∅) (s' := outS c 0) (outS_zero c) (k0_off17_eq c) ((hv u6 h6).trans (if_pos rfl).symm)) $$ Hout; iintro Hout
  iapply (wp_st_os m ρ c (congrArg (fun x => shapeCast S32x1024 (truncf .bf16 x bitsLt_bf16_f32) shapeCasts_S32x1024_S32x1024) (hv u6 h6))) $$ Hos; iintro Hos
  rw [WP_ret]; imodintro
  iapply Hk
  isplitl [HO]; · iexact HO
  isplitl [HP]; · iexact HP
  isplitl [Hw]; · iexact Hw
  isplitl [Hout]; · iexact Hout
  iexact Hos

set_option maxHeartbeats 1600000 in
/-- The first three sends of the second exchange. -/
theorem part18 (v2 : BitVec 32) {Kt : _ → sProp 𝕄} :
    iprop(recs m ρ K ∗ ow c (owing c ∅ ∅ (ge7 0)) ∗ prog (ge7 0) (s2A m ρ c) (s2B (F := F) c))
      ⊢ iprop((∀ w511 w522 w533 w1, (ow c (owing c ∅ ∅ (ge7 3)) ∗ prog (ge7 3) (s2A m ρ c) (s2B (F := F) c)) -∗ Kt ⟨w511, w522, w533, w1⟩)
          -∗ WP c (k0_part18 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2) Kt) := by
  rw [k0_part18_eq_skeleton]; unfold k0_part18_skel
  simp only [semSignalWord, semWaitWord, Prog.lift, Prog.bind_op, Prog.bind_ret, Prog.pure_eq_ret, wp_deviceId]
  iintro ⟨#HR, HO, HS⟩ Hk
  iapply (wp_send2 m ρ K c 0 (s := ge7 0) (s' := ge7 1) (by decide) (by decide) _ (Fin.ext (k0_dev22_eq c)) (p2S 0) rfl (dsem 2 0) (dsem 3 0) rfl rfl) $$ [HO HS]
  · isplitr; · iexact HR
    isplitl [HO]; · iexact HO
    iexact HS
  iintro ⟨HO, HS⟩
  iapply (wp_send2 m ρ K c 1 (s := ge7 1) (s' := ge7 2) (by decide) (by decide) _ (Fin.ext (k0_dev23_eq c)) (p2S 1) rfl (dsem 2 1) (dsem 3 1) rfl rfl) $$ [HO HS]
  · isplitr; · iexact HR
    isplitl [HO]; · iexact HO
    iexact HS
  iintro ⟨HO, HS⟩
  iapply (wp_send2 m ρ K c 2 (s := ge7 2) (s' := ge7 3) (by decide) (by decide) _ (Fin.ext (k0_dev24_eq c)) (p2S 2) rfl (dsem 2 2) (dsem 3 2) rfl rfl) $$ [HO HS]
  · isplitr; · iexact HR
    isplitl [HO]; · iexact HO
    iexact HS
  iintro ⟨HO, HS⟩
  rw [WP_ret]; imodintro
  iapply Hk
  isplitl [HO]; · iexact HO
  iexact HS

set_option maxHeartbeats 1600000 in
/-- The next three. -/
theorem part19 (v2 v533 w1 : BitVec 32) {Kt : _ → sProp 𝕄} :
    iprop(recs m ρ K ∗ ow c (owing c ∅ ∅ (ge7 3)) ∗ prog (ge7 3) (s2A m ρ c) (s2B (F := F) c))
      ⊢ iprop((∀ w544 w555 w565, (ow c (owing c ∅ ∅ (ge7 6)) ∗ prog (ge7 6) (s2A m ρ c) (s2B (F := F) c)) -∗ Kt ⟨w544, w555, w565⟩)
          -∗ WP c (k0_part19 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2 v533 w1) Kt) := by
  rw [k0_part19_eq_skeleton]; unfold k0_part19_skel
  simp only [semSignalWord, semWaitWord, Prog.lift, Prog.bind_op, Prog.bind_ret, Prog.pure_eq_ret, wp_deviceId]
  iintro ⟨#HR, HO, HS⟩ Hk
  iapply (wp_send2 m ρ K c 3 (s := ge7 3) (s' := ge7 4) (by decide) (by decide) _ (Fin.ext (k0_dev25_eq c)) (p2S 3) rfl (dsem 2 3) (dsem 3 3) rfl rfl) $$ [HO HS]
  · isplitr; · iexact HR
    isplitl [HO]; · iexact HO
    iexact HS
  iintro ⟨HO, HS⟩
  iapply (wp_send2 m ρ K c 4 (s := ge7 4) (s' := ge7 5) (by decide) (by decide) _ (Fin.ext (k0_dev26_eq c)) (p2S 4) rfl (dsem 2 4) (dsem 3 4) rfl rfl) $$ [HO HS]
  · isplitr; · iexact HR
    isplitl [HO]; · iexact HO
    iexact HS
  iintro ⟨HO, HS⟩
  iapply (wp_send2 m ρ K c 5 (s := ge7 5) (s' := ge7 6) (by decide) (by decide) _ (Fin.ext (k0_dev27_eq c)) (p2S 5) rfl (dsem 2 5) (dsem 3 5) rfl rfl) $$ [HO HS]
  · isplitr; · iexact HR
    isplitl [HO]; · iexact HO
    iexact HS
  iintro ⟨HO, HS⟩
  rw [WP_ret]; imodintro
  iapply Hk
  isplitl [HO]; · iexact HO
  iexact HS

set_option maxHeartbeats 1600000 in
/-- The last send of the second exchange and the first receive. -/
theorem part20 (v2 v500 v511 v565 : BitVec 32) {Kt : _ → sProp 𝕄} :
    iprop(recs m ρ K ∗ (ow c (owing c ∅ ∅ (ge7 6)) ∗ prog (ge7 6) (s2A m ρ c) (s2B (F := F) c)) ∗ prog (ge7 0) (wA (F := F) c 3) (rB (F := F) c 3) ∗ outAt m ρ c (outS c 0))
      ⊢ iprop((∀ w, (prog (ge7 7) (s2A m ρ c) (s2B (F := F) c) ∗ ow c (owing c ∅ ∅ ∅) ∗ prog (ge7 1) (wA (F := F) c 3) (rB (F := F) c 3) ∗ outAt m ρ c (outS c 1)) -∗ Kt w)
          -∗ WP c (k0_part20 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2 v500 v511 v565) Kt) := by
  rw [k0_part20_eq_skeleton]; unfold k0_part20_skel
  simp only [semSignalWord, semWaitWord, Prog.lift, Prog.bind_op, Prog.bind_ret, Prog.pure_eq_ret, wp_deviceId]
  iintro ⟨#HR, ⟨HO, HS⟩, HP, Hout⟩ Hk
  iapply (wp_send2 m ρ K c 6 (s := ge7 6) (s' := ge7 7) (by decide) (by decide) _ (Fin.ext (k0_dev28_eq c)) (p2S 6) rfl (dsem 2 6) (dsem 3 6) rfl rfl) $$ [HO HS]
  · isplitr; · iexact HR
    isplitl [HO]; · iexact HO
    iexact HS
  iintro ⟨HO, HS⟩
  rw [show ge7 7 = ∅ from by decide]
  iapply (wp_recv2 m ρ K c 0 (s := ge7 0) (s' := ge7 1) (by decide) (by decide) (t := outS c 0) (t' := outS c 1) (outS_succ c 0) _ rfl _ (p2S 0) rfl rfl
    (k0_off18_eq c 0) k0_pay70 (fun _ => rfl)) $$ [HO HP Hout]
  · isplitr; · iexact HR
    isplitl [HO]; · iexact HO
    isplitl [HP]; · iexact HP
    iexact Hout
  iintro ⟨HO, HP, Hout⟩
  rw [WP_ret]; imodintro
  iapply Hk
  isplitl [HS]; · iexact HS
  isplitl [HO]; · iexact HO
  isplitl [HP]; · iexact HP
  iexact Hout

set_option maxHeartbeats 1600000 in
/-- Receives 1 and 2 of the second exchange. -/
theorem part21 (v2 v522 v533 : BitVec 32) {Kt : _ → sProp 𝕄} :
    iprop(recs m ρ K ∗ ow c (owing c ∅ ∅ ∅) ∗ prog (ge7 1) (wA (F := F) c 3) (rB (F := F) c 3) ∗ outAt m ρ c (outS c 1))
      ⊢ iprop(((ow c (owing c ∅ ∅ ∅) ∗ prog (ge7 3) (wA (F := F) c 3) (rB (F := F) c 3) ∗ outAt m ρ c (outS c 3)) -∗ Kt ⟨⟩)
          -∗ WP c (k0_part21 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2 v522 v533) Kt) := by
  rw [k0_part21_eq_skeleton]; unfold k0_part21_skel
  simp only [semSignalWord, semWaitWord, Prog.lift, Prog.bind_op, Prog.bind_ret, Prog.pure_eq_ret, wp_deviceId]
  iintro ⟨#HR, HO, HP, Hout⟩ Hk
  iapply (wp_recv2 m ρ K c 1 (s := ge7 1) (s' := ge7 2) (by decide) (by decide) (t := outS c 1) (t' := outS c 2) (outS_succ c 1) _ rfl _ (p2S 1) rfl rfl
    (k0_off18_eq c 1) k0_pay71 (fun _ => rfl)) $$ [HO HP Hout]
  · isplitr; · iexact HR
    isplitl [HO]; · iexact HO
    isplitl [HP]; · iexact HP
    iexact Hout
  iintro ⟨HO, HP, Hout⟩
  iapply (wp_recv2 m ρ K c 2 (s := ge7 2) (s' := ge7 3) (by decide) (by decide) (t := outS c 2) (t' := outS c 3) (outS_succ c 2) _ rfl _ (p2S 2) rfl rfl
    (k0_off18_eq c 2) k0_pay72 (fun _ => rfl)) $$ [HO HP Hout]
  · isplitr; · iexact HR
    isplitl [HO]; · iexact HO
    isplitl [HP]; · iexact HP
    iexact Hout
  iintro ⟨HO, HP, Hout⟩
  rw [WP_ret]; imodintro
  iapply Hk
  isplitl [HO]; · iexact HO
  isplitl [HP]; · iexact HP
  iexact Hout

set_option maxHeartbeats 1600000 in
/-- Receives 3 and 4 of the second exchange. -/
theorem part22 (v2 v544 v555 : BitVec 32) {Kt : _ → sProp 𝕄} :
    iprop(recs m ρ K ∗ ow c (owing c ∅ ∅ ∅) ∗ prog (ge7 3) (wA (F := F) c 3) (rB (F := F) c 3) ∗ outAt m ρ c (outS c 3))
      ⊢ iprop(((ow c (owing c ∅ ∅ ∅) ∗ prog (ge7 5) (wA (F := F) c 3) (rB (F := F) c 3) ∗ outAt m ρ c (outS c 5)) -∗ Kt ⟨⟩)
          -∗ WP c (k0_part22 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2 v544 v555) Kt) := by
  rw [k0_part22_eq_skeleton]; unfold k0_part22_skel
  simp only [semSignalWord, semWaitWord, Prog.lift, Prog.bind_op, Prog.bind_ret, Prog.pure_eq_ret, wp_deviceId]
  iintro ⟨#HR, HO, HP, Hout⟩ Hk
  iapply (wp_recv2 m ρ K c 3 (s := ge7 3) (s' := ge7 4) (by decide) (by decide) (t := outS c 3) (t' := outS c 4) (outS_succ c 3) _ rfl _ (p2S 3) rfl rfl
    (k0_off18_eq c 3) k0_pay73 (fun _ => rfl)) $$ [HO HP Hout]
  · isplitr; · iexact HR
    isplitl [HO]; · iexact HO
    isplitl [HP]; · iexact HP
    iexact Hout
  iintro ⟨HO, HP, Hout⟩
  iapply (wp_recv2 m ρ K c 4 (s := ge7 4) (s' := ge7 5) (by decide) (by decide) (t := outS c 4) (t' := outS c 5) (outS_succ c 4) _ rfl _ (p2S 4) rfl rfl
    (k0_off18_eq c 4) k0_pay74 (fun _ => rfl)) $$ [HO HP Hout]
  · isplitr; · iexact HR
    isplitl [HO]; · iexact HO
    isplitl [HP]; · iexact HP
    iexact Hout
  iintro ⟨HO, HP, Hout⟩
  rw [WP_ret]; imodintro
  iapply Hk
  isplitl [HO]; · iexact HO
  isplitl [HP]; · iexact HP
  iexact Hout

set_option maxHeartbeats 1600000 in
/-- Receives 5 and 6 of the second exchange. -/
theorem part23 (v2 v566 : BitVec 32) {Kt : _ → sProp 𝕄} :
    iprop(recs m ρ K ∗ ow c (owing c ∅ ∅ ∅) ∗ prog (ge7 5) (wA (F := F) c 3) (rB (F := F) c 3) ∗ outAt m ρ c (outS c 5))
      ⊢ iprop(((ow c (owing c ∅ ∅ ∅) ∗ prog (ge7 7) (wA (F := F) c 3) (rB (F := F) c 3) ∗ outAt m ρ c (outS c 7)) -∗ Kt ⟨⟩)
          -∗ WP c (k0_part23 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c v2 v566) Kt) := by
  rw [k0_part23_eq_skeleton]; unfold k0_part23_skel
  simp only [semSignalWord, semWaitWord, Prog.lift, Prog.bind_op, Prog.bind_ret, Prog.pure_eq_ret, wp_deviceId]
  iintro ⟨#HR, HO, HP, Hout⟩ Hk
  iapply (wp_recv2 m ρ K c 5 (s := ge7 5) (s' := ge7 6) (by decide) (by decide) (t := outS c 5) (t' := outS c 6) (outS_succ c 5) _ rfl _ (p2S 5) rfl rfl
    (k0_off18_eq c 5) k0_pay75 (fun _ => rfl)) $$ [HO HP Hout]
  · isplitr; · iexact HR
    isplitl [HO]; · iexact HO
    isplitl [HP]; · iexact HP
    iexact Hout
  iintro ⟨HO, HP, Hout⟩
  iapply (wp_recv2 m ρ K c 6 (s := ge7 6) (s' := ge7 7) (by decide) (by decide) (t := outS c 6) (t' := outS c 7) (outS_succ c 6) _ rfl _ (p2S 6) rfl rfl
    (k0_off18_eq c 6) k0_pay76 (fun _ => rfl)) $$ [HO HP Hout]
  · isplitr; · iexact HR
    isplitl [HO]; · iexact HO
    isplitl [HP]; · iexact HP
    iexact Hout
  iintro ⟨HO, HP, Hout⟩
  rw [WP_ret]; imodintro
  iapply Hk
  isplitl [HO]; · iexact HO
  isplitl [HP]; · iexact HP
  iexact Hout

set_option maxHeartbeats 1600000 in
/-- The waits for sends 0, 1 and 2 of both exchanges. -/
theorem part24 {Kt : _ → sProp 𝕄} :
    iprop(recs m ρ K ∗ ow c (owing c ∅ ∅ ∅) ∗ prog (ge7 0) (wA (F := F) c 0) (wB m ρ c 0) ∗ prog (ge7 0) (wA (F := F) c 2) (wB m ρ c 2))
      ⊢ iprop(((ow c (owing c ∅ ∅ ∅) ∗ prog (ge7 3) (wA (F := F) c 0) (wB m ρ c 0) ∗ prog (ge7 3) (wA (F := F) c 2) (wB m ρ c 2)) -∗ Kt ⟨⟩)
          -∗ WP c (k0_part24 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c) Kt) := by
  rw [k0_part24_eq_skeleton]; unfold k0_part24_skel
  simp only [semSignalWord, semWaitWord, Prog.lift, Prog.bind_op, Prog.bind_ret, Prog.pure_eq_ret, wp_deviceId]
  iintro ⟨#HR, HO, H0, H2⟩ Hk
  iapply (wp_dwait m ρ K c 0 0 ∅ ∅ (s := ge7 0) (s' := ge7 1) (by decide) (by decide) rfl (.inl rfl) _ rfl _ _ (blk_credit _ _) (wB m ρ c 0)) $$ [HO H0]
  · isplitr; · iexact HR
    isplitl [HO]; · iexact HO
    iexact H0
  iintro ⟨HO, HB, H0⟩
  ihave H0 := H0 $$ HB
  iapply (wp_dwait m ρ K c 2 0 ∅ ∅ (s := ge7 0) (s' := ge7 1) (by decide) (by decide) rfl (.inl rfl) _ rfl _ _ os_credit (wB m ρ c 2)) $$ [HO H2]
  · isplitr; · iexact HR
    isplitl [HO]; · iexact HO
    iexact H2
  iintro ⟨HO, HB, H2⟩
  ihave H2 := H2 $$ HB
  iapply (wp_dwait m ρ K c 0 1 ∅ ∅ (s := ge7 1) (s' := ge7 2) (by decide) (by decide) rfl (.inl rfl) _ rfl _ _ (blk_credit _ _) (wB m ρ c 0)) $$ [HO H0]
  · isplitr; · iexact HR
    isplitl [HO]; · iexact HO
    iexact H0
  iintro ⟨HO, HB, H0⟩
  ihave H0 := H0 $$ HB
  iapply (wp_dwait m ρ K c 2 1 ∅ ∅ (s := ge7 1) (s' := ge7 2) (by decide) (by decide) rfl (.inl rfl) _ rfl _ _ os_credit (wB m ρ c 2)) $$ [HO H2]
  · isplitr; · iexact HR
    isplitl [HO]; · iexact HO
    iexact H2
  iintro ⟨HO, HB, H2⟩
  ihave H2 := H2 $$ HB
  iapply (wp_dwait m ρ K c 0 2 ∅ ∅ (s := ge7 2) (s' := ge7 3) (by decide) (by decide) rfl (.inl rfl) _ rfl _ _ (blk_credit _ _) (wB m ρ c 0)) $$ [HO H0]
  · isplitr; · iexact HR
    isplitl [HO]; · iexact HO
    iexact H0
  iintro ⟨HO, HB, H0⟩
  ihave H0 := H0 $$ HB
  iapply (wp_dwait m ρ K c 2 2 ∅ ∅ (s := ge7 2) (s' := ge7 3) (by decide) (by decide) rfl (.inl rfl) _ rfl _ _ os_credit (wB m ρ c 2)) $$ [HO H2]
  · isplitr; · iexact HR
    isplitl [HO]; · iexact HO
    iexact H2
  iintro ⟨HO, HB, H2⟩
  ihave H2 := H2 $$ HB
  rw [WP_ret]; imodintro
  iapply Hk
  isplitl [HO]; · iexact HO
  isplitl [H0]; · iexact H0
  iexact H2

set_option maxHeartbeats 1600000 in
/-- The waits for sends 3 and 4. -/
theorem part25 {Kt : _ → sProp 𝕄} :
    iprop(recs m ρ K ∗ ow c (owing c ∅ ∅ ∅) ∗ prog (ge7 3) (wA (F := F) c 0) (wB m ρ c 0) ∗ prog (ge7 3) (wA (F := F) c 2) (wB m ρ c 2))
      ⊢ iprop(((ow c (owing c ∅ ∅ ∅) ∗ prog (ge7 5) (wA (F := F) c 0) (wB m ρ c 0) ∗ prog (ge7 5) (wA (F := F) c 2) (wB m ρ c 2)) -∗ Kt ⟨⟩)
          -∗ WP c (k0_part25 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7 c) Kt) := by
  rw [k0_part25_eq_skeleton]; unfold k0_part25_skel
  simp only [semSignalWord, semWaitWord, Prog.lift, Prog.bind_op, Prog.bind_ret, Prog.pure_eq_ret, wp_deviceId]
  iintro ⟨#HR, HO, H0, H2⟩ Hk
  iapply (wp_dwait m ρ K c 0 3 ∅ ∅ (s := ge7 3) (s' := ge7 4) (by decide) (by decide) rfl (.inl rfl) _ rfl _ _ (blk_credit _ _) (wB m ρ c 0)) $$ [HO H0]
  · isplitr; · iexact HR
    isplitl [HO]; · iexact HO
    iexact H0
  iintro ⟨HO, HB, H0⟩
  ihave H0 := H0 $$ HB
  iapply (wp_dwait m ρ K c 2 3 ∅ ∅ (s := ge7 3) (s' := ge7 4) (by decide) (by decide) rfl (.inl rfl) _ rfl _ _ os_credit (wB m ρ c 2)) $$ [HO H2]
  · isplitr; · iexact HR
    isplitl [HO]; · iexact HO
    iexact H2
  iintro ⟨HO, HB, H2⟩
  ihave H2 := H2 $$ HB
  iapply (wp_dwait m ρ K c 0 4 ∅ ∅ (s := ge7 4) (s' := ge7 5) (by decide) (by decide) rfl (.inl rfl) _ rfl _ _ (blk_credit _ _) (wB m ρ c 0)) $$ [HO H0]
  · isplitr; · iexact HR
    isplitl [HO]; · iexact HO
    iexact H0
  iintro ⟨HO, HB, H0⟩
  ihave H0 := H0 $$ HB
  iapply (wp_dwait m ρ K c 2 4 ∅ ∅ (s := ge7 4) (s' := ge7 5) (by decide) (by decide) rfl (.inl rfl) _ rfl _ _ os_credit (wB m ρ c 2)) $$ [HO H2]
  · isplitr; · iexact HR
    isplitl [HO]; · iexact HO
    iexact H2
  iintro ⟨HO, HB, H2⟩
  ihave H2 := H2 $$ HB
  rw [WP_ret]; imodintro
  iapply Hk
  isplitl [HO]; · iexact HO
  isplitl [H0]; · iexact H0
  iexact H2

end Cert.KernelIdeal.Attn
-- ==== Proof.Ideal.Buffers.lean ====
/-
# Scratch buffers whole and in pieces

Before the exchanges the two receive buffers are cut into their seven slots; after them the slots, and the blocks and
shares of the two send buffers, are put together again into whole buffers.
-/
module

public import proofs.«01_k».proof.Proof.Ideal.Moves

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The slots of the receive buffers -/

theorem mem_p1 (r : Fin 7) (i : S7x32x1152.Idx) : i ∈ (p1R r).set ↔ (i 0).val = r.val := by
  constructor
  · intro h
    have h0 : r.val ≤ (i 0).val ∧ (i 0).val < r.val + 1 := Rect.mem_set_unit.mp h 0
    omega
  · intro h
    refine Rect.mem_set_unit.mpr fun x => ?_
    match x with
    | ⟨0, _⟩ => show r.val ≤ (i 0).val ∧ (i 0).val < r.val + 1; omega
    | ⟨1, _⟩ => exact ⟨Nat.zero_le _, by have h : (i 1).val < 32 := (i 1).isLt; show (i 1).val < 0 + 32; omega⟩
    | ⟨2, _⟩ => exact ⟨Nat.zero_le _, by have h : (i 2).val < 1152 := (i 2).isLt; show (i 2).val < 0 + 1152; omega⟩
theorem mem_p2 (r : Fin 7) (i : S7x32x1024.Idx) : i ∈ (p2R r).set ↔ (i 0).val = r.val := by
  constructor
  · intro h
    have h0 : r.val ≤ (i 0).val ∧ (i 0).val < r.val + 1 := Rect.mem_set_unit.mp h 0
    omega
  · intro h
    refine Rect.mem_set_unit.mpr fun x => ?_
    match x with
    | ⟨0, _⟩ => show r.val ≤ (i 0).val ∧ (i 0).val < r.val + 1; omega
    | ⟨1, _⟩ => exact ⟨Nat.zero_le _, by have h : (i 1).val < 32 := (i 1).isLt; show (i 1).val < 0 + 32; omega⟩
    | ⟨2, _⟩ => exact ⟨Nat.zero_le _, by have h : (i 2).val < 1024 := (i 2).isLt; show (i 2).val < 0 + 1024; omega⟩

theorem p1_disjoint (r r' : Fin 7) (h : r ≠ r') : Disjoint ((p1S r).view.set) ((p1S r').view.set) := by
  rw [p1_set, p1_set, Finset.disjoint_left]
  exact fun i hi hi' => h (Fin.ext (((mem_p1 r i).mp hi).symm.trans ((mem_p1 r' i).mp hi')))
theorem p2_disjoint (r r' : Fin 7) (h : r ≠ r') : Disjoint ((p2S r).view.set) ((p2S r').view.set) := by
  rw [p2_set, p2_set, Finset.disjoint_left]
  exact fun i hi hi' => h (Fin.ext (((mem_p2 r i).mp hi).symm.trans ((mem_p2 r' i).mp hi')))
theorem p1_univ : (Finset.univ : Finset S7x32x1152.Idx) = (Finset.univ : Finset (Fin 7)).biUnion fun r => (p1S r).view.set := by
  ext i
  refine ⟨fun _ => Finset.mem_biUnion.mpr ⟨⟨(i 0).val, (i 0).isLt⟩, Finset.mem_univ _, ?_⟩, fun _ => Finset.mem_univ _⟩
  rw [p1_set]; exact (mem_p1 _ i).mpr rfl
theorem p2_univ : (Finset.univ : Finset S7x32x1024.Idx) = (Finset.univ : Finset (Fin 7)).biUnion fun r => (p2S r).view.set := by
  ext i
  refine ⟨fun _ => Finset.mem_biUnion.mpr ⟨⟨(i 0).val, (i 0).isLt⟩, Finset.mem_univ _, ?_⟩, fun _ => Finset.mem_univ _⟩
  rw [p2_set]; exact (mem_p2 _ i).mpr rfl

/-! ## A buffer cut into pieces, and put together -/

section Pieces
variable {T : Type} [DecidableEq T] {ℓ : Loc nD τ sig} (S : Finset T) (P : T → Finset (Idx ℓ))

omit [FloatOps F] [DecidableEq T] in
/-- A buffer is its disjoint pieces. -/
theorem cut_pieces (hd : ∀ t ∈ S, ∀ t' ∈ S, t ≠ t' → Disjoint (P t) (P t')) (hu : (Finset.univ : Finset (Idx ℓ)) = S.biUnion P) (f : Buf (Elt F) ℓ) :
    (ℓ ↦{fullShare} f : sProp 𝕄) ⊢ bigSep S (fun t => iprop(∃ f, ℓ ↦[P t]{fullShare} f)) := by
  show (ℓ ↦[Finset.univ]{fullShare} f : sProp 𝕄) ⊢ _
  have h := pointsTo_biUnion (Ix := Unit) (Name := ℕ) (U := UU) (Lvl := ℕ) (Val := Elt F) (ℓ := ℓ) (q := fullShare) (f := f) S P hd
  rw [← hu] at h
  refine (Entails.of_eq h).trans (bigSep_mono fun t _ => ?_)
  show (ℓ ↦[P t]{fullShare} f : sProp 𝕄) ⊢ iprop(∃ f, ℓ ↦[P t]{fullShare} f)
  iintro H; iexists f; iexact H

omit [FloatOps F] in
/-- Disjoint pieces that cover a buffer, each at its own contents, are the buffer at some contents. -/
theorem join_pieces (hd : ∀ t ∈ S, ∀ t' ∈ S, t ≠ t' → Disjoint (P t) (P t')) (hu : (Finset.univ : Finset (Idx ℓ)) = S.biUnion P) (f₀ : Buf (Elt F) ℓ) :
    bigSep S (fun t => iprop(∃ f, ℓ ↦[P t]{fullShare} f)) ⊢ (iprop(∃ f, ℓ ↦{fullShare} f) : sProp 𝕄) := by
  haveI : Nonempty (Buf (Elt F) ℓ) := ⟨f₀⟩
  refine (BI.bigSep_exists_pi S (fun (t : T) (f : Buf (Elt F) ℓ) => (ℓ ↦[P t]{fullShare} f : sProp 𝕄))).trans ?_
  iintro ⟨%fs, H⟩
  ihave H := (pointsTo_biUnion_join (Ix := Unit) (Name := ℕ) (U := UU) (Lvl := ℕ) (Val := Elt F) (ℓ := ℓ) (q := fullShare) S P fs f₀ hd) $$ H
  icases H with ⟨%g, -, H⟩
  rw [← hu]
  iexists g; iexact H
end Pieces

omit [FloatOps F] in
theorem p1_cut (f : Buf (Elt F) ((c : Thread nD τ).loc cc0_scratch2)) :
    (((c : Thread nD τ).loc cc0_scratch2 ↦{fullShare} f : sProp 𝕄)) ⊢ bigSep Finset.univ (fun r => iprop(∃ f, p1Pts (F := F) c r f)) :=
  cut_pieces (ℓ := (c : Thread nD τ).loc cc0_scratch2) Finset.univ (fun r => (p1S r).view.set) (fun r _ r' _ h => p1_disjoint r r' h) p1_univ f
omit [FloatOps F] in
theorem p2_cut (f : Buf (Elt F) ((c : Thread nD τ).loc cc0_scratch3)) :
    (((c : Thread nD τ).loc cc0_scratch3 ↦{fullShare} f : sProp 𝕄)) ⊢ bigSep Finset.univ (fun r => iprop(∃ f, p2Pts (F := F) c r f)) :=
  cut_pieces (ℓ := (c : Thread nD τ).loc cc0_scratch3) Finset.univ (fun r => (p2S r).view.set) (fun r _ r' _ h => p2_disjoint r r' h) p2_univ f
omit [FloatOps F] in
theorem p1_join (f₀ : Buf (Elt F) ((c : Thread nD τ).loc cc0_scratch2)) :
    bigSep Finset.univ (fun r => iprop(∃ f, p1Pts (F := F) c r f)) ⊢ (iprop(∃ f, (c : Thread nD τ).loc cc0_scratch2 ↦{fullShare} f) : sProp 𝕄) :=
  join_pieces (ℓ := (c : Thread nD τ).loc cc0_scratch2) Finset.univ (fun r => (p1S r).view.set) (fun r _ r' _ h => p1_disjoint r r' h) p1_univ f₀
omit [FloatOps F] in
theorem p2_join (f₀ : Buf (Elt F) ((c : Thread nD τ).loc cc0_scratch3)) :
    bigSep Finset.univ (fun r => iprop(∃ f, p2Pts (F := F) c r f)) ⊢ (iprop(∃ f, (c : Thread nD τ).loc cc0_scratch3 ↦{fullShare} f) : sProp 𝕄) :=
  join_pieces (ℓ := (c : Thread nD τ).loc cc0_scratch3) Finset.univ (fun r => (p2S r).view.set) (fun r _ r' _ h => p2_disjoint r r' h) p2_univ f₀

theorem dn_injective (r r' : Fin 7) (h : dn c r = dn c r') : r = r' := by revert c r r'; decide +kernel
theorem dn_univ : (Finset.univ.erase c : Finset (Dev nD)) = Finset.univ.map ⟨dn c, fun r r' h => dn_injective c r r' h⟩ := by
  revert c; decide +kernel

/-- The blocks of the send buffer, a device's own and the seven its transfers gave back, are the whole buffer. -/
theorem my_join (f₀ : Buf (Elt F) ((c : Thread nD τ).loc cc0_scratch0)) :
    iprop(blkFull m ρ c c ∗ bigSep Finset.univ (fun r => iprop(∃ f, blkPts (F := F) c (dn c r) f)))
      ⊢ (iprop(∃ f, (c : Thread nD τ).loc cc0_scratch0 ↦{fullShare} f) : sProp 𝕄) := by
  have h := join_pieces (F := F) (ℓ := (c : Thread nD τ).loc cc0_scratch0) Finset.univ (fun b : Dev nD => (blkM b).view.set)
    (fun b _ b' _ h => blk_disjoint b b' h) univ_eq_blks f₀
  rw [bigSep_univ_at _ c, dn_univ, bigSep_map] at h
  have h0 : blkFull m ρ c c ⊢ (iprop(∃ f, blkPts (F := F) c c f) : sProp 𝕄) := by
    unfold blkFull
    iintro ⟨%f, -, H⟩; iexists f; iexact H
  exact (sep_mono_left h0).trans h

/-- The seven shares of the second send buffer are the whole buffer. -/
theorem os_join : bigSep Finset.univ (fun r => osPts m ρ c r) ⊢ (iprop(∃ f, (c : Thread nD τ).loc cc0_scratch1 ↦{fullShare} f) : sProp 𝕄) := by
  have h := Transfers.pointsTo_deal (Ix := Unit) (Name := ℕ) (U := UU) (Lvl := ℕ) (Val := Elt F)
    (ℓ := (osM : Memref sig .tc .vmem S32x1024 .bf16).view.loc (c : Thread nD τ)) (S := (osM : Memref sig .tc .vmem S32x1024 .bf16).view.set)
    (f := ostC m ρ c) (Finset.univ : Finset (Fin 7)) ⟨0, Finset.mem_univ _⟩ fullShare
  have hs : (osM : Memref sig .tc .vmem S32x1024 .bf16).view.set = Finset.univ := View.set_whole _
  refine (Entails.of_eq h.symm).trans ?_
  rw [hs]
  iintro H
  iexists ostC m ρ c
  iexact H

end Cert.KernelIdeal.Attn
-- ==== Proof.Ideal.Body.lean ====
/-
# The whole body of the kernel

What a device holds when the body starts is sorted into the families of the exchanges; the pieces of the body run one after
the other; what is left is put together again into whole buffers and closed semaphores.
-/
module

public import proofs.«01_k».proof.Proof.Ideal.Parts2
public import proofs.«01_k».proof.Proof.Ideal.Buffers

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kind → ℕ) (c : Dev nD)

theorem WP_bind {α β : Type} {Q : β → sProp 𝕄} (p : Prog (TpuEff nD τ sig (Elt F) Λ₀ .tc) α) (k : α → Prog (TpuEff nD τ sig (Elt F) Λ₀ .tc) β) :
    WP c (p >>= k) Q = WP c p (fun a => WP c (k a) Q) := wp_bind _ _ _ _ _ _

/-! ## What a device holds at the start and at the end -/

/-- Its position at each of its cells. -/
def poss : sProp 𝕄 :=
  iprop(atPos ER (barCell c) 0 ∅ 0 ∗ (bigSep Finset.univ fun r => atPos ER (dCell 0 c r) 0 ∅ 0) ∗ (bigSep Finset.univ fun r => atPos ER (dCell 1 c r) 0 ∅ 0)
    ∗ (bigSep Finset.univ fun r => atPos ER (dCell 2 c r) 0 ∅ 0) ∗ (bigSep Finset.univ fun r => atPos ER (dCell 3 c r) 0 ∅ 0))
/-- The tokens of the duties it performs: its signals, and the two ends of its transfers. -/
def toks : sProp 𝕄 :=
  iprop((bigSep Finset.univ fun r => dutyTok ER (barCell (up c r)) 0 r) ∗ (bigSep Finset.univ fun r => dutyTok ER (dCell 0 c r) 0 0)
    ∗ (bigSep Finset.univ fun r => dutyTok ER (dCell 1 (dn c r) r) 0 0) ∗ (bigSep Finset.univ fun r => dutyTok ER (dCell 2 c r) 0 0)
    ∗ (bigSep Finset.univ fun r => dutyTok ER (dCell 3 (dn c r) r) 0 0))
/-- The credits of what others owe it. -/
def creds : sProp 𝕄 :=
  iprop(cred (tallyAt (barCell c) () 7) ∗ (bigSep Finset.univ fun r => cred (tallyAt (dCell 1 c r) () N1))
    ∗ (bigSep Finset.univ fun r => cred (tallyAt (dCell 3 c r) () N2)))
/-- Its scratch buffers, at any contents. -/
def scr : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))
/-- Its semaphores, closed at zero. -/
def sems : sProp 𝕄 :=
  iprop(semVal (barCell c) 0 ∗ (bigSep Finset.univ fun r => semVal (dCell 0 c r) 0) ∗ (bigSep Finset.univ fun r => semVal (dCell 1 c r) 0)
    ∗ (bigSep Finset.univ fun r => semVal (dCell 2 c r) 0) ∗ (bigSep Finset.univ fun r => semVal (dCell 3 c r) 0))
/-- Its operands, staged. -/
def opsAt : sProp 𝕄 := iprop(xPts m ρ c ∗ wqPts m ρ c ∗ woPts m ρ c ∗ kPts m ρ c ∗ vPts m ρ c)

/-! ## The families -/

omit [FloatOps F] in
theorem fam_sig :
    iprop((bigSep Finset.univ fun r => dutyTok ER (barCell (up c r)) 0 r) ∗ (bigSep Finset.univ fun r => iprop(∃ f, p1Pts (F := F) c r f))
      ∗ (bigSep Finset.univ fun r => iprop(∃ f, p2Pts (F := F) c r f))) ⊢ (prog (ge7 0) (sigA (F := F) c) (sigB (F := F)) : sProp 𝕄) := by
  rw [show ge7 0 = Finset.univ from by decide, prog_univ]; unfold sigA; rw [bigSep_sep', bigSep_sep']

omit [FloatOps F] in
theorem fam_bar : (bigSep Finset.univ (fun r => barPay (F := F) c r) : sProp 𝕄)
    ⊢ iprop((bigSep Finset.univ fun r => iprop(∃ f, p1Pts (F := F) (dn c r) r f)) ∗ (bigSep Finset.univ fun r => iprop(∃ f, p2Pts (F := F) (dn c r) r f))) := by
  unfold barPay; rw [bigSep_sep']

omit [FloatOps F] in
theorem fam_s1 :
    iprop((bigSep Finset.univ fun r => dutyTok ER (dCell 0 c r) 0 0) ∗ (bigSep Finset.univ fun r => dutyTok ER (dCell 1 (dn c r) r) 0 0)
      ∗ (bigSep Finset.univ fun r => iprop(∃ f, p1Pts (F := F) (dn c r) r f))) ⊢ (prog Finset.univ (s1A (F := F) c) (s1B (F := F) c) : sProp 𝕄) := by
  rw [prog_univ]; unfold s1A; rw [bigSep_sep', bigSep_sep']
  show (_ : sProp 𝕄) ⊢ _
  iintro ⟨H1, H2, H3⟩
  isplitl [H1 H2]
  · isplitl [H1]; · iexact H1
    iexact H2
  iexact H3

theorem fam_s2 :
    iprop((bigSep Finset.univ fun r => dutyTok ER (dCell 2 c r) 0 0) ∗ (bigSep Finset.univ fun r => dutyTok ER (dCell 3 (dn c r) r) 0 0)
      ∗ (bigSep Finset.univ fun r => iprop(∃ f, p2Pts (F := F) (dn c r) r f)) ∗ bigSep Finset.univ (fun r => osPts m ρ c r))
      ⊢ (prog (ge7 0) (s2A m ρ c) (s2B (F := F) c) : sProp 𝕄) := by
  rw [show ge7 0 = Finset.univ from by decide, prog_univ]; unfold s2A; rw [bigSep_sep', bigSep_sep', bigSep_sep']
  show (_ : sProp 𝕄) ⊢ _
  iintro ⟨H1, H2, H3, H4⟩
  isplitl [H1 H2]
  · isplitl [H1]; · iexact H1
    iexact H2
  isplitl [H3]; · iexact H3
  iexact H4

omit [FloatOps F] in
/-- The credits and the positions of one array's cells are what its waits take. -/
theorem fam_w (j : Fin 4) (B : Fin 7 → sProp 𝕄) :
    iprop((bigSep Finset.univ fun r => cred (tallyAt (dCell j c r) () (Nof j))) ∗ (bigSep Finset.univ fun r => atPos ER (dCell j c r) 0 ∅ 0))
      ⊢ (prog (ge7 0) (wA (F := F) c j) B : sProp 𝕄) := by
  rw [show ge7 0 = Finset.univ from by decide, prog_univ]; unfold wA; rw [bigSep_sep']

theorem fam_c0 : (prog ∅ (s1A (F := F) c) (s1B (F := F) c) : sProp 𝕄) ⊢ bigSep Finset.univ fun r => cred (tallyAt (dCell 0 c r) () (Nof 0)) := by
  rw [prog_empty, show Nof 0 = N1 from if_pos (by decide)]; exact BI.Entails.refl _
theorem fam_c2 : (prog (ge7 7) (s2A m ρ c) (s2B (F := F) c) : sProp 𝕄) ⊢ bigSep Finset.univ fun r => cred (tallyAt (dCell 2 c r) () (Nof 2)) := by
  rw [show ge7 7 = ∅ from by decide, prog_empty, show Nof 2 = N2 from if_neg (by decide)]; exact BI.Entails.refl _

/-- What the waits leave: closed counters, and what the transfers brought back. -/
theorem fam_wB (j : Fin 4) : (prog ∅ (wA (F := F) c j) (wB m ρ c j) : sProp 𝕄)
    ⊢ iprop((bigSep Finset.univ fun r => semVal (dCell j c r) 0) ∗ (bigSep Finset.univ fun r => dmaPay m ρ c j r)) := by
  rw [prog_empty]; unfold wB; rw [bigSep_sep']
theorem fam_rB1 : (prog ∅ (wA (F := F) c 1) (rB (F := F) c 1) : sProp 𝕄)
    ⊢ iprop((bigSep Finset.univ fun r => semVal (dCell 1 c r) 0) ∗ (bigSep Finset.univ fun r => iprop(∃ f, p1Pts (F := F) c r f))) := by
  rw [prog_empty, show rB (F := F) c 1 = fun r => iprop(semVal (dCell 1 c r) 0 ∗ ∃ f, p1Pts (F := F) c r f) from funext fun r => by unfold rB; rw [if_pos rfl], bigSep_sep']
theorem fam_rB3 : (prog (ge7 7) (wA (F := F) c 3) (rB (F := F) c 3) : sProp 𝕄)
    ⊢ iprop((bigSep Finset.univ fun r => semVal (dCell 3 c r) 0) ∗ (bigSep Finset.univ fun r => iprop(∃ f, p2Pts (F := F) c r f))) := by
  rw [show ge7 7 = ∅ from by decide, prog_empty,
    show rB (F := F) c 3 = fun r => iprop(semVal (dCell 3 c r) 0 ∗ ∃ f, p2Pts (F := F) c r f) from funext fun r => by unfold rB; rw [if_neg (by decide)], bigSep_sep']

/-- The device's own block lies in one of the two halves. -/
theorem own_blk : iprop(ownB m ρ c 0 ∗ ownB m ρ c 1) ⊢ blkFull m ρ c c := by
  have h : ((halfB 0).filter (fun b => b = c) = {c} ∧ (halfB 1).filter (fun b => b = c) = ∅)
      ∨ ((halfB 0).filter (fun b => b = c) = ∅ ∧ (halfB 1).filter (fun b => b = c) = {c}) := by revert c; decide +kernel
  unfold ownB
  rcases h with ⟨h0, h1⟩ | ⟨h0, h1⟩ <;> rw [h0, h1, bigSep_singleton, bigSep_empty]
  · iintro ⟨H, -⟩; iexact H
  · iintro ⟨-, H⟩; iexact H

/-! ## The body -/

set_option maxHeartbeats 6400000 in
/-- The pieces of the body, one after the other, up to the wait before the last. -/
theorem part26 {Kt : _ → sProp 𝕄} :
    iprop(recs m ρ K ∗ ow c (owing c (ge7 0) Finset.univ Finset.univ) ∗ poss (F := F) c ∗ toks (F := F) c ∗ creds (F := F) c ∗ scr (F := F) c ∗ opsAt m ρ c ∗ outAt m ρ c ∅)
      ⊢ iprop(((ow c (owing c ∅ ∅ ∅) ∗ semVal (barCell c) 0 ∗ opsAt m ρ c ∗ outAt m ρ c (outS c 7) ∗ blkFull m ρ c c ∗ prog ∅ (wA (F := F) c 1) (rB (F := F) c 1)
            ∗ prog (ge7 7) (wA (F := F) c 3) (rB (F := F) c 3) ∗ prog (ge7 7) (wA (F := F) c 0) (wB m ρ c 0) ∗ prog (ge7 6) (wA (F := F) c 2) (wB m ρ c 2)) -∗ Kt ⟨⟩)
          -∗ WP c (k0_part26 xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7) Kt) := by
  rw [k0_part26_eq_skeleton]; unfold k0_part26_skel
  simp only [Prog.lift, Prog.bind_op, Prog.bind_ret, Prog.pure_eq_ret]
  unfold poss toks creds scr opsAt
  iintro ⟨#HR, HO, ⟨Hab, Ha0, Ha1, Ha2, Ha3⟩, ⟨Htb, Ht0, Ht1, Ht2, Ht3⟩, ⟨Hcb, Hc1, Hc3⟩, ⟨⟨%fm, Hm⟩, Hos, ⟨%f1, H1⟩, ⟨%f2, H2⟩⟩, ⟨Hx, Hq, Hw, Hk', Hv⟩, Hout⟩ Hk
  ihave H1 := (p1_cut (F := F) c f1) $$ H1
  ihave H2 := (p2_cut (F := F) c f2) $$ H2
  ihave Hm := (my_halves (F := F) c fm) $$ Hm
  icases Hm with ⟨Hm0, Hm1⟩
  ihave Hos := (Entails.of_eq (show iprop(∃ f, (c : Thread nD τ).loc cc0_scratch1 ↦{fullShare} f) = osAny (F := F) c from rfl)) $$ Hos
  ihave HS := (fam_sig (F := F) c) $$ [Htb H1 H2]
  · isplitl [Htb]; · iexact Htb
    isplitl [H1]; · iexact H1
    iexact H2
  rw [WP_bind]
  iapply (part1 m ρ K c) $$ [HO HS]
  · isplitr; · iexact HR
    isplitl [HO]; · iexact HO
    iexact HS
  iintro %w2 %w24 %w8 ⟨HO, HS⟩
  dsimp only
  rw [WP_bind]
  iapply (part2 m ρ K c w2 w24 w8) $$ [HO HS Hcb Hab Hx Hq]
  · isplitr; · iexact HR
    isplitl [HO]; · iexact HO
    isplitl [HS]; · iexact HS
    isplitl [Hcb]; · iexact Hcb
    isplitl [Hab]; · iexact Hab
    isplitl [Hx]; · iexact Hx
    iexact Hq
  iintro %w41 %w45 %w49 %w51 ⟨HO, Hz, HP, Hx, Hq⟩
  dsimp only
  ihave HP := (fam_bar (F := F) c) $$ HP
  icases HP with ⟨H1, H2⟩
  ihave HP := (fam_s1 (F := F) c) $$ [Ht0 Ht1 H1]
  · isplitl [Ht0]; · iexact Ht0
    isplitl [Ht1]; · iexact Ht1
    iexact H1
  ihave HH : half m ρ c 0 0 $$ [Hk' Hv Hm0]
  · unfold half
    isplitl [Hk']; · iexact Hk'
    isplitl [Hv]; · iexact Hv
    unfold halfAt
    iexists fm
    isplitr; · ipureintro; exact filled_zero m ρ c 0 fm
    iexact Hm0
  rw [WP_bind]
  iapply (part3 m ρ c w2 w51) $$ [HH]
  · iexact HH
  iintro %w53 %w57 %w61 %w65 HH
  dsimp only
  rw [WP_bind]
  iapply (part4 m ρ c) $$ [HH]
  · iexact HH
  iintro HH
  dsimp only
  rw [WP_bind]
  iapply (part5 m ρ c) $$ [HH]
  · iexact HH
  iintro HH
  dsimp only
  rw [WP_bind]
  iapply (part6 m ρ c) $$ [HH]
  · iexact HH
  iintro HH
  dsimp only
  rw [WP_bind]
  iapply (part7 m ρ K c w41 w45 w49 w53) $$ [HH HO HP]
  · isplitr; · iexact HR
    isplitl [HH]; · iexact HH
    isplitl [HO]; · iexact HO
    iexact HP
  iintro %w199 ⟨Hk', Hv, HS, Hown0⟩
  rw [WP_bind]
  iapply (part8 m ρ K c w53 w57 w61 w65 w199) $$ [Hk' HS]
  · isplitr; · iexact HR
    isplitl [Hk']; · iexact Hk'
    iexact HS
  iintro ⟨Hk', HS⟩
  dsimp only
  ihave HH : half m ρ c 1 0 $$ [Hk' Hv Hm1]
  · unfold half
    isplitl [Hk']; · iexact Hk'
    isplitl [Hv]; · iexact Hv
    unfold halfAt
    iexists fm
    isplitr; · ipureintro; exact filled_zero m ρ c 1 fm
    iexact Hm1
  rw [WP_bind]
  iapply (part9 m ρ c) $$ [HH]
  · iexact HH
  iintro HH
  dsimp only
  rw [WP_bind]
  iapply (part10 m ρ c) $$ [HH]
  · iexact HH
  iintro HH
  dsimp only
  rw [WP_bind]
  iapply (part11 m ρ c) $$ [HH]
  · iexact HH
  iintro HH
  dsimp only
  rw [WP_bind]
  iapply (part12 m ρ K c w41 w45) $$ [HH HS]
  · isplitr; · iexact HR
    isplitl [HH]; · iexact HH
    iexact HS
  iintro %w344 %z0 ⟨Hk', Hv, HS, Hown1⟩
  dsimp only
  rw [WP_bind]
  iapply (part13 m ρ K c w45 w49 w53 w57 w61 w65 w344 z0) $$ [HS]
  · isplitr; · iexact HR
    iexact HS
  iintro %w369 %z1 HS
  dsimp only
  ihave Hb := (own_blk m ρ c) $$ [Hown0 Hown1]
  · isplitl [Hown0]; · iexact Hown0
    iexact Hown1
  ihave HW1 := (fam_w (F := F) c 1 (rB (F := F) c 1)) $$ [Hc1 Ha1]
  · isplitl [Hc1]; · iexact Hc1
    iexact Ha1
  rw [WP_bind]
  iapply (part14 m ρ K c w2 w41 w45 w65 w369 z1) $$ [HS Hb HW1]
  · isplitr; · iexact HR
    isplitl [HS]; · iexact HS
    isplitl [Hb]; · iexact Hb
    iexact HW1
  iintro %v %u0 %u1 %hb %h0 %h1 ⟨HO, HC0, Hb, HW1⟩
  dsimp only
  rw [WP_bind]
  iapply (part15 m ρ K c w49 w53 _ _ _ _) $$ [HO HW1]
  · isplitr; · iexact HR
    isplitl [HO]; · iexact HO
    iexact HW1
  iintro %u2 %u3 %h2 %h3 ⟨HO, HW1⟩
  dsimp only
  rw [WP_bind]
  iapply (part16 m ρ K c w57 w61 w65 _ _) $$ [HO HW1]
  · isplitr; · iexact HR
    isplitl [HO]; · iexact HO
    iexact HW1
  iintro %u4 %u5 %h4 %h5 ⟨HO, HW1⟩
  dsimp only
  rw [WP_bind]
  iapply (part17 m ρ K c w2 _ _ (fun u6 h6 => outv_of_blocks m ρ c hb h0 h1 h2 h3 h4 h5 h6)) $$ [HO HW1 Hw Hout Hos]
  · isplitr; · iexact HR
    isplitl [HO]; · iexact HO
    isplitl [HW1]; · iexact HW1
    isplitl [Hw]; · iexact Hw
    isplitl [Hout]; · iexact Hout
    iexact Hos
  iintro %w500 ⟨HO, HW1, Hw, Hout, Hos⟩
  ihave HS := (fam_s2 m ρ c) $$ [Ht2 Ht3 H2 Hos]
  · isplitl [Ht2]; · iexact Ht2
    isplitl [Ht3]; · iexact Ht3
    isplitl [H2]; · iexact H2
    iexact Hos
  rw [show (Finset.univ : Finset (Fin 7)) = ge7 0 from by decide]
  rw [WP_bind]
  iapply (part18 m ρ K c w2) $$ [HO HS]
  · isplitr; · iexact HR
    isplitl [HO]; · iexact HO
    iexact HS
  iintro %w511 %w522 %w533 %z2 ⟨HO, HS⟩
  dsimp only
  rw [WP_bind]
  iapply (part19 m ρ K c w2 w533 z2) $$ [HO HS]
  · isplitr; · iexact HR
    isplitl [HO]; · iexact HO
    iexact HS
  iintro %w544 %w555 %w565 ⟨HO, HS⟩
  dsimp only
  ihave HW3 := (fam_w (F := F) c 3 (rB (F := F) c 3)) $$ [Hc3 Ha3]
  · isplitl [Hc3]; · iexact Hc3
    iexact Ha3
  rw [WP_bind]
  iapply (part20 m ρ K c w2 w500 w511 w565) $$ [HO HS HW3 Hout]
  · isplitr; · iexact HR
    isplitl [HO HS]
    · isplitl [HO]; · iexact HO
      iexact HS
    isplitl [HW3]; · iexact HW3
    iexact Hout
  iintro %w566 ⟨HS, HO, HW3, Hout⟩
  rw [WP_bind]
  iapply (part21 m ρ K c w2 w522 w533) $$ [HO HW3 Hout]
  · isplitr; · iexact HR
    isplitl [HO]; · iexact HO
    isplitl [HW3]; · iexact HW3
    iexact Hout
  iintro ⟨HO, HW3, Hout⟩
  rw [WP_bind]
  iapply (part22 m ρ K c w2 w544 w555) $$ [HO HW3 Hout]
  · isplitr; · iexact HR
    isplitl [HO]; · iexact HO
    isplitl [HW3]; · iexact HW3
    iexact Hout
  iintro ⟨HO, HW3, Hout⟩
  rw [WP_bind]
  iapply (part23 m ρ K c w2 w566) $$ [HO HW3 Hout]
  · isplitr; · iexact HR
    isplitl [HO]; · iexact HO
    isplitl [HW3]; · iexact HW3
    iexact Hout
  iintro ⟨HO, HW3, Hout⟩
  ihave HW0 := (fam_w (F := F) c 0 (wB m ρ c 0)) $$ [HC0 Ha0]
  · isplitl [HC0]; · iapply (fam_c0 (F := F) c); iexact HC0
    iexact Ha0
  ihave HW2 := (fam_w (F := F) c 2 (wB m ρ c 2)) $$ [HS Ha2]
  · isplitl [HS]; · iapply (fam_c2 m ρ c); iexact HS
    iexact Ha2
  rw [WP_bind]
  iapply (part24 m ρ K c) $$ [HO HW0 HW2]
  · isplitr; · iexact HR
    isplitl [HO]; · iexact HO
    isplitl [HW0]; · iexact HW0
    iexact HW2
  iintro ⟨HO, HW0, HW2⟩
  rw [WP_bind]
  iapply (part25 m ρ K c) $$ [HO HW0 HW2]
  · isplitr; · iexact HR
    isplitl [HO]; · iexact HO
    isplitl [HW0]; · iexact HW0
    iexact HW2
  iintro ⟨HO, HW0, HW2⟩
  iapply (wp_dwait m ρ K c 0 5 ∅ ∅ (s := ge7 5) (s' := ge7 6) (by decide) (by decide) rfl (.inl rfl) _ rfl _ _ (blk_credit _ _) (wB m ρ c 0)) $$ [HO HW0]
  · isplitr; · iexact HR
    isplitl [HO]; · iexact HO
    iexact HW0
  iintro ⟨HO, HB, HW0⟩
  ihave HW0 := HW0 $$ HB
  iapply (wp_dwait m ρ K c 2 5 ∅ ∅ (s := ge7 5) (s' := ge7 6) (by decide) (by decide) rfl (.inl rfl) _ rfl _ _ os_credit (wB m ρ c 2)) $$ [HO HW2]
  · isplitr; · iexact HR
    isplitl [HO]; · iexact HO
    iexact HW2
  iintro ⟨HO, HB, HW2⟩
  ihave HW2 := HW2 $$ HB
  iapply (wp_dwait m ρ K c 0 6 ∅ ∅ (s := ge7 6) (s' := ge7 7) (by decide) (by decide) rfl (.inl rfl) _ rfl _ _ (blk_credit _ _) (wB m ρ c 0)) $$ [HO HW0]
  · isplitr; · iexact HR
    isplitl [HO]; · iexact HO
    iexact HW0
  iintro ⟨HO, HB, HW0⟩
  ihave HW0 := HW0 $$ HB
  rw [WP_ret]; imodintro
  iapply Hk
  isplitl [HO]; · iexact HO
  isplitl [Hz]; · iexact Hz
  isplitl [Hx Hq Hw Hk' Hv]
  · isplitl [Hx]; · iexact Hx
    isplitl [Hq]; · iexact Hq
    isplitl [Hw]; · iexact Hw
    isplitl [Hk']; · iexact Hk'
    iexact Hv
  isplitl [Hout]; · iexact Hout
  isplitl [Hb]; · iexact Hb
  isplitl [HW1]; · iexact HW1
  isplitl [HW3]; · iexact HW3
  isplitl [HW0]; · iexact HW0
  iexact HW2

set_option maxHeartbeats 1600000 in
/-- The whole body. -/
theorem body {Kt : _ → sProp 𝕄} :
    iprop(recs m ρ K ∗ ow c (O₀ c) ∗ poss (F := F) c ∗ toks (F := F) c ∗ creds (F := F) c ∗ scr (F := F) c ∗ opsAt m ρ c ∗ outAt m ρ c ∅)
      ⊢ iprop(((ow c (owing c ∅ ∅ ∅) ∗ sems (F := F) c ∗ scr (F := F) c ∗ opsAt m ρ c ∗ outAt m ρ c Finset.univ) -∗ Kt ⟨⟩)
          -∗ WP c (cc0_body xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7) Kt) := by
  rw [cc0_body_eq_skeleton]; unfold cc0_body_skel
  simp only [Prog.lift, Prog.bind_op, Prog.bind_ret, Prog.pure_eq_ret]
  iintro ⟨#HR, HO, Hp, Ht, Hc, Hs, Hop, Hout⟩ Hk
  ihave Hs := (Entails.of_eq (show scr (F := F) c = iprop(_ ∗ _ ∗ _ ∗ _) from rfl)) $$ Hs
  icases Hs with ⟨⟨%fm, Hm⟩, Hos, ⟨%f1, H1⟩, ⟨%f2, H2⟩⟩
  rw [show O₀ c = owing c (ge7 0) Finset.univ Finset.univ from by rw [show ge7 0 = Finset.univ from by decide]; rfl]
  rw [WP_bind]
  iapply (part26 m ρ K c) $$ [HO Hp Ht Hc Hm Hos H1 H2 Hop Hout]
  · isplitr; · iexact HR
    isplitl [HO]; · iexact HO
    isplitl [Hp]; · iexact Hp
    isplitl [Ht]; · iexact Ht
    isplitl [Hc]; · iexact Hc
    isplitl [Hm Hos H1 H2]
    · unfold scr
      isplitl [Hm]; · iexists fm; iexact Hm
      isplitl [Hos]; · iexact Hos
      isplitl [H1]; · iexists f1; iexact H1
      iexists f2; iexact H2
    isplitl [Hop]; · iexact Hop
    iexact Hout
  iintro ⟨HO, Hz, Hop, Hout, Hb, HW1, HW3, HW0, HW2⟩
  iapply (wp_dwait m ρ K c 2 6 ∅ ∅ (s := ge7 6) (s' := ge7 7) (by decide) (by decide) rfl (.inl rfl) _ rfl _ _ os_credit (wB m ρ c 2)) $$ [HO HW2]
  · isplitr; · iexact HR
    isplitl [HO]; · iexact HO
    iexact HW2
  iintro ⟨HO, HB, HW2⟩
  ihave HW2 := HW2 $$ HB
  rw [show ge7 7 = ∅ from by decide]
  ihave HW0 := (fam_wB m ρ c 0) $$ HW0
  icases HW0 with ⟨Hz0, Hp0⟩
  ihave HW1 := (fam_rB1 (F := F) c) $$ HW1
  icases HW1 with ⟨Hz1, Hp1⟩
  ihave HW2 := (fam_wB m ρ c 2) $$ HW2
  icases HW2 with ⟨Hz2, Hp2⟩
  ihave HW3 := (fam_rB3 (F := F) c) $$ [HW3]
  · rw [show ge7 7 = ∅ from by decide]; iexact HW3
  icases HW3 with ⟨Hz3, Hp3⟩
  ihave Hm := (my_join m ρ c fm) $$ [Hb Hp0]
  · isplitl [Hb]; · iexact Hb
    iexact Hp0
  ihave Hos := (os_join m ρ c) $$ [Hp2]
  · iexact Hp2
  ihave H1 := (p1_join (F := F) c f1) $$ Hp1
  ihave H2 := (p2_join (F := F) c f2) $$ Hp3
  rw [WP_ret]; imodintro
  iapply Hk
  isplitl [HO]; · iexact HO
  isplitl [Hz Hz0 Hz1 Hz2 Hz3]
  · unfold sems
    isplitl [Hz]; · iexact Hz
    isplitl [Hz0]; · iexact Hz0
    isplitl [Hz1]; · iexact Hz1
    isplitl [Hz2]; · iexact Hz2
    iexact Hz3
  isplitl [Hm Hos H1 H2]
  · unfold scr
    isplitl [Hm]; · iexact Hm
    isplitl [Hos]; · iexact Hos
    isplitl [H1]; · iexact H1
    iexact H2
  isplitl [Hop]; · iexact Hop
  rw [← outS_seven c]; iexact Hout

end Cert.KernelIdeal.Attn
-- ==== Proof.Ideal.Deal.lean ====
/-
# What the launch deals

Every cell's round state, position and duty tokens are minted together; one global step allocates the invariants of all
cells of all devices under one map of names and hands each device the tokens of the duties it performs, which for its
signals and its transfers are duties of other devices' cells. What each device is owed at launch is summed over the mesh.
-/
module

public import proofs.«01_k».proof.Proof.Ideal.Body

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells and over the devices -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_arr (Φ : Fin 4 × Fin 7 → sProp 𝕄) :
    bigSep Finset.univ Φ = iprop((bigSep Finset.univ fun r => Φ (0, r)) ∗ (bigSep Finset.univ fun r => Φ (1, r))
      ∗ (bigSep Finset.univ fun r => Φ (2, r)) ∗ (bigSep Finset.univ fun r => Φ (3, r))) := by
  rw [bigSep_univ_prod, bigSep_fin4]

omit [FloatOps F] in
/-- A family over a device's cells: the barrier's member, and those of the arrays. -/
theorem bigSep_kind (Φ : Kind → sProp 𝕄) :
    bigSep Finset.univ Φ = iprop(Φ none ∗ bigSep Finset.univ fun jr => Φ (some jr)) := by
  rw [bigSep_univ_at Φ none, show (Finset.univ : Finset Kind).erase none = Finset.univ.map Function.Embedding.some from by decide, bigSep_map]
  rfl

/-- Going up by `r + 1` places, as a rearrangement of the devices; and going down. -/
def upE (r : Fin 7) : Dev nD ≃ Dev nD := ⟨fun c => up c r, fun c => dn c r, fun c => dn_up c r, fun c => up_dn c r⟩
def dnE (r : Fin 7) : Dev nD ≃ Dev nD := (upE r).symm

omit [FloatOps F] in
/-- A family over devices and places, dealt to other devices, place by place. -/
theorem bigSep_around (e : Fin 7 → (Dev nD ≃ Dev nD)) (Ψ : Dev nD → Fin 7 → sProp 𝕄) :
    (bigSep Finset.univ fun c => bigSep Finset.univ fun r => Ψ c r) = bigSep Finset.univ fun c => bigSep Finset.univ fun r => Ψ (e r c) r := by
  have hs (Φ : Dev nD → Fin 7 → sProp 𝕄) :
      (bigSep Finset.univ fun c => bigSep Finset.univ fun r => Φ c r) = bigSep Finset.univ fun r => bigSep Finset.univ fun c => Φ c r := by
    rw [← bigSep_univ_prod fun x : Dev nD × Fin 7 => Φ x.1 x.2, ← bigSep_univ_prod fun x : Fin 7 × Dev nD => Φ x.2 x.1,
      bigSep_univ_equiv (Equiv.prodComm (Fin 7) (Dev nD))]
    rfl
  rw [hs, hs fun c r => Ψ (e r c) r]
  exact bigSep_congr fun r _ => bigSep_univ_equiv (e r) fun c => Ψ c r

/-! ## The elements minted -/

theorem kcell_injective : Function.Injective (kcell : Dev nD × Kind → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def ringCells : Finset (GSem nD τ sig) := Finset.univ.map ⟨kcell, kcell_injective⟩

/-- A duty of a device's own cells: `inl r` the barrier's duty `r`, `inr jr` the one duty of that DMA cell. -/
def tokOf (x : Dev nD × (Fin 7 ⊕ Fin 4 × Fin 7)) : GSem nD τ sig × ℕ × Fin 7 :=
  match x.2 with
  | .inl r => (barCell x.1, 0, r)
  | .inr jr => (dCell jr.1 x.1 jr.2, 0, 0)
theorem tokOf_injective : Function.Injective tokOf := by
  rintro ⟨c, r | jr⟩ ⟨c', r' | jr'⟩ h
  · have h1 : (c, (none : Kind)) = (c', none) := kcell_injective (congrArg (fun x : GSem nD τ sig × ℕ × Fin 7 => x.1) h)
    have h2 : r = r' := congrArg (fun x : GSem nD τ sig × ℕ × Fin 7 => x.2.2) h
    rw [(Prod.mk.inj h1).1, h2]
  · have h1 : (c, (none : Kind)) = (c', some jr') := kcell_injective (congrArg (fun x : GSem nD τ sig × ℕ × Fin 7 => x.1) h)
    exact absurd (Prod.mk.inj h1).2 (by simp)
  · have h1 : (c, (some jr : Kind)) = (c', none) := kcell_injective (congrArg (fun x : GSem nD τ sig × ℕ × Fin 7 => x.1) h)
    exact absurd (Prod.mk.inj h1).2 (by simp)
  · have h1 : (c, (some jr : Kind)) = (c', some jr') := kcell_injective (congrArg (fun x : GSem nD τ sig × ℕ × Fin 7 => x.1) h)
    rw [(Prod.mk.inj h1).1, Option.some.inj (Prod.mk.inj h1).2]
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def ownToks (c : Dev nD) : sProp 𝕄 :=
  iprop((bigSep Finset.univ fun r => dutyTok ER (barCell c) 0 r) ∗ (bigSep Finset.univ fun r => dutyTok ER (dCell 0 c r) 0 0)
    ∗ (bigSep Finset.univ fun r => dutyTok ER (dCell 1 c r) 0 0) ∗ (bigSep Finset.univ fun r => dutyTok ER (dCell 2 c r) 0 0)
    ∗ (bigSep Finset.univ fun r => dutyTok ER (dCell 3 c r) 0 0))

/-- What the minted element gives device `c`. -/
def G (c : Dev nD) : sProp 𝕄 :=
  iprop((bigSep Finset.univ fun k : Kind => roundState ER (sched m ρ) (kcell (c, k)) 0)
    ∗ (bigSep Finset.univ fun k : Kind => atPos ER (kcell (c, k)) 0 ∅ 0) ∗ (bigSep Finset.univ fun k : Kind => reached ER (kcell (c, k)) 0) ∗ ownToks (F := F) c)

/-- The records of all cells, without the levels. -/
def cellRecs (K : Dev nD × Kind → ℕ) : sProp 𝕄 :=
  iprop((bigSep Finset.univ fun ck : Dev nD × Kind => cellInv ER (sched m ρ) (K ck) (kcell ck))
    ∗ (bigSep Finset.univ fun ck : Dev nD × Kind => reached ER (kcell ck) 0))
instance cellRecs_persistent (K : Dev nD × Kind → ℕ) : BI.Persistent (cellRecs m ρ K) := by unfold cellRecs; infer_instance

/-- What the global step makes of it. -/
def G' (c : Dev nD) : sProp 𝕄 := iprop(∃ K, cellRecs m ρ K ∗ poss (F := F) c ∗ toks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Kind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    refine bigSep_congr fun c _ => ?_
    rw [bigSep_univ_sum, bigSep_arr]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores of the launch -/

/-- The kernel's own semaphores. -/
def osem : Fin 4 × Fin 7 → SemLoc sig := fun jr => .dma (dsem jr.1 jr.2)

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun jr : Fin 4 × Fin 7 => semVal (dCell jr.1 c jr.2) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Kind => atPos ER (kcell (c, k)) 0 ∅ 0) ∗ (bigSep Finset.univ fun k : Kind => reached ER (kcell (c, k)) 0) ∗ ownToks c) := by
  have hs : iprop(Pipeline.ownSems0 (Ix := Unit) (Name := ℕ) (U := UU) (Lvl := ℕ) (Val := Elt F) (τ := τ) osem c ∗ unscopedSems0 c)
      ⊢ (bigSep Finset.univ fun k : Kind => semVal (kcell (c, k)) 0 : sProp 𝕄) := by
    rw [ownSems0_eq, unscopedSems0_eq, bigSep_kind]
    iintro ⟨HS, HB⟩
    isplitl [HB]; · iexact HB
    iexact HS
  have ha : iprop((bigSep Finset.univ fun k : Kind => semVal (kcell (c, k)) 0) ∗ bigSep Finset.univ fun k : Kind => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  iintro ⟨Hos, Hus, Hst, Hat, Hr, Htok⟩
  ihave Hv := hs $$ [Hos Hus]
  · isplitl [Hos] <;> iassumption
  imod ha $$ [Hv Hst] with Hinv
  · isplitl [Hv] <;> iassumption
  imodintro
  isplitl [Hinv]; · iexact Hinv
  isplitl [Hat]; · iexact Hat
  isplitl [Hr]; · iexact Hr
  iexact Htok

omit [FloatOps F] in
/-- The tokens dealt: a barrier's duty `r` to the device that signals it, a receive cell's duty to the device that fills it. -/
theorem toks_around : (bigSep Finset.univ fun c : Dev nD => (ownToks c : sProp 𝕄)) ⊢ bigSep Finset.univ fun c : Dev nD => toks c := by
  unfold ownToks toks
  simp only [bigSep_sep']
  refine Entails.of_eq ?_
  rw [bigSep_around upE fun c r => dutyTok ER (barCell c) 0 r, bigSep_around dnE fun c r => dutyTok ER (dCell 1 c r) 0 0,
    bigSep_around dnE fun c r => dutyTok ER (dCell 3 c r) 0 0]
  rfl

omit [FloatOps F] in
theorem poss_of (c : Dev nD) : (bigSep Finset.univ fun k : Kind => (atPos ER (kcell (c, k)) 0 ∅ 0 : sProp 𝕄)) ⊢ poss c := by
  unfold poss; rw [bigSep_kind, bigSep_arr]; exact BI.Entails.refl _

theorem regroup :
    (bigSep Finset.univ fun c : Dev nD => iprop((bigSep Finset.univ fun k => iprop(∃ κ : ℕ, cellInv ER (sched m ρ) κ (kcell (c, k))))
          ∗ (bigSep Finset.univ fun k : Kind => atPos ER (kcell (c, k)) 0 ∅ 0) ∗ (bigSep Finset.univ fun k : Kind => reached ER (kcell (c, k)) 0) ∗ ownToks c) : sProp 𝕄)
      ⊢ bigSep Finset.univ (G' m ρ) := by
  have hG (K : Dev nD × Kind → ℕ) (c : Dev nD) : iprop(cellRecs m ρ K ∗ (poss c ∗ toks c)) ⊢ G' m ρ c := by
    unfold G'
    iintro ⟨HR, Hp, Ht⟩
    iexists K
    isplitl [HR]; · iexact HR
    isplitl [Hp]; · iexact Hp
    iexact Ht
  rw [bigSep_sep', bigSep_sep', bigSep_sep', ← bigSep_univ_prod (fun ck : Dev nD × Kind => iprop(∃ κ : ℕ, cellInv ER (sched m ρ) κ (kcell ck))),
    ← bigSep_univ_prod (fun ck : Dev nD × Kind => (reached ER (kcell ck) 0 : sProp 𝕄))]
  iintro ⟨HI, Hat, HR, Htok⟩
  ihave HK := (BI.bigSep_exists_pi Finset.univ (fun (ck : Dev nD × Kind) (κ : ℕ) => (cellInv ER (sched m ρ) κ (kcell ck) : sProp 𝕄))) $$ HI
  icases HK with ⟨%K, HI⟩
  ihave Htk := (toks_around (F := F)) $$ Htok
  ihave Hps := (show (bigSep Finset.univ fun c : Dev nD => bigSep Finset.univ fun k : Kind => (atPos ER (kcell (c, k)) 0 ∅ 0 : sProp 𝕄)) ⊢ bigSep Finset.univ fun c : Dev nD => poss c
    from bigSep_mono fun c _ => poss_of (F := F) c) $$ Hat
  iapply (bigSep_with_persistent (R := cellRecs m ρ K) fun c _ => hG K c)
  isplitl [HI HR]
  · unfold cellRecs
    isplitl [HI]; · iexact HI
    iexact HR
  rw [bigSep_sep']
  isplitl [Hps]; · iexact Hps
  iexact Htk

/-- The global step: every device's semaphores become invariants, and the tokens are dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What each device is owed -/

theorem bar_eq_iff {a b : Dev nD} : barCell a = barCell b ↔ a = b :=
  ⟨fun h => (Prod.mk.inj (kcell_injective (a₁ := (a, none)) (a₂ := (b, none)) h)).1, fun h => h ▸ rfl⟩
theorem dma_eq_iff {a b : Dev nD} {j j' : Fin 4} {r r' : Fin 7} : dCell j a r = dCell j' b r' ↔ a = b ∧ j = j' ∧ r = r' :=
  ⟨fun h => by
    have h' := Prod.mk.inj (kcell_injective (a₁ := (a, some (j, r))) (a₂ := (b, some (j', r'))) h)
    have h2 := Prod.mk.inj (Option.some.inj h'.2)
    exact ⟨h'.1, h2.1, h2.2⟩, fun ⟨h1, h2, h3⟩ => by rw [h1, h2, h3]⟩
theorem bar_ne_dma {a b : Dev nD} {j : Fin 4} {r : Fin 7} : barCell a ≠ dCell j b r := fun h => by
  have h' := Prod.mk.inj (kcell_injective (a₁ := (a, none)) (a₂ := (b, some (j, r))) h)
  exact absurd h'.2 (by simp)

/-- A sum of tallies at one cell, as a sum of numbers. -/
theorem sum_tally (X : Fin 7 → GSem nD τ sig) (n : ℕ) (g : GSem nD τ sig) :
    (∑ r, (tallyAt (X r) () n : CellTallies nD τ sig Unit)) g () = ∑ r, if g = X r then n else 0 := by
  rw [Finset.sum_apply, Finsupp.finset_sum_apply]
  refine Finset.sum_congr rfl fun r _ => ?_
  rw [tallyAt_apply]
  by_cases h : g = X r
  · rw [if_pos ⟨h, rfl⟩, if_pos h]
  · rw [if_neg fun h' => h h'.1, if_neg h]
theorem sum_tally_ne (X : Fin 7 → GSem nD τ sig) (n : ℕ) (g : GSem nD τ sig) (h : ∀ r, g ≠ X r) :
    (∑ r, (tallyAt (X r) () n : CellTallies nD τ sig Unit)) g () = 0 := by
  rw [sum_tally]; exact Finset.sum_eq_zero fun r _ => if_neg (h r)

theorem O₀_apply (d : Dev nD) (g : GSem nD τ sig) :
    O₀ d g () = oweB d Finset.univ g () + owe1 d Finset.univ g () + owe2 d Finset.univ g () := by
  unfold O₀ owing; rw [Pi.add_apply, Finsupp.add_apply, Pi.add_apply, Finsupp.add_apply]

theorem sum_bar (c : Dev nD) : (∑ d : Dev nD, O₀ d (barCell c) ()) = 7 := by
  have h (d : Dev nD) : O₀ d (barCell c) () = ∑ r, if d = dn c r then 1 else 0 := by
    rw [O₀_apply]; unfold oweB owe1 owe2
    rw [sum_tally_ne _ _ _ fun r => bar_ne_dma, sum_tally_ne _ _ _ fun r => bar_ne_dma, sum_tally, Nat.add_zero]
    refine Finset.sum_congr (M := ℕ) rfl fun r _ => ?_
    exact if_congr (bar_eq_iff.trans ⟨fun h => by rw [h, dn_up], fun h => by rw [h, up_dn]⟩) rfl rfl
  rw [Finset.sum_congr rfl fun d _ => h d, Finset.sum_comm, Finset.sum_congr rfl fun r _ => Finset.sum_ite_eq' Finset.univ (dn c r) fun _ => (1 : ℕ)]
  simp

/-- One receive cell of one exchange: the device `r + 1` places up owes it one transfer's credit. -/
theorem sum_recv (j : Fin 4) (n : ℕ) (c : Dev nD) (r : Fin 7) :
    (∑ d : Dev nD, (∑ r', (tallyAt (dCell j (dn d r') r') () n : CellTallies nD τ sig Unit)) (dCell j c r) ()) = n := by
  have h (d : Dev nD) : (∑ r', (tallyAt (dCell j (dn d r') r') () n : CellTallies nD τ sig Unit)) (dCell j c r) () = if d = up c r then n else 0 := by
    rw [sum_tally, Finset.sum_eq_single r (fun r' _ hr => if_neg fun h => hr (dma_eq_iff.mp h).2.2.symm) fun h => absurd (Finset.mem_univ r) h]
    exact if_congr (dma_eq_iff.trans ⟨fun h => by rw [h.1, up_dn], fun h => ⟨by rw [h, dn_up], rfl, rfl⟩⟩) rfl rfl
  rw [Finset.sum_congr rfl fun d _ => h d, Finset.sum_ite_eq' Finset.univ (up c r) fun _ => n, if_pos (Finset.mem_univ _)]

theorem sum_recv1 (c : Dev nD) (r : Fin 7) : (∑ d : Dev nD, O₀ d (dCell 1 c r) ()) = N1 := by
  refine (Finset.sum_congr (M := ℕ) rfl fun d _ => ?_).trans (sum_recv 1 N1 c r)
  rw [O₀_apply]; unfold oweB owe1 owe2
  rw [sum_tally_ne _ _ _ fun r => bar_ne_dma.symm, sum_tally_ne _ N2 _ fun r h => absurd (dma_eq_iff.mp h).2.1 (by decide)]
  omega
theorem sum_recv3 (c : Dev nD) (r : Fin 7) : (∑ d : Dev nD, O₀ d (dCell 3 c r) ()) = N2 := by
  refine (Finset.sum_congr (M := ℕ) rfl fun d _ => ?_).trans (sum_recv 3 N2 c r)
  rw [O₀_apply]; unfold oweB owe1 owe2
  rw [sum_tally_ne _ _ _ fun r => bar_ne_dma.symm, sum_tally_ne _ N1 _ fun r h => absurd (dma_eq_iff.mp h).2.1 (by decide)]
  omega

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem creds_intro (c : Dev nD) : (Pipeline.launchCred O₀ c : sProp 𝕄) ⊢ creds c := by
  unfold Pipeline.launchCred
  refine (bigSep_subset (Finset.subset_univ (Finset.univ.map ⟨csem, csem_injective⟩))).trans ?_
  rw [bigSep_map, bigSep_kind, bigSep_arr]
  have hb := launch_at (barCell c) 7 (sum_bar c)
  have h1 (r : Fin 7) := launch_at (dCell 1 c r) N1 (sum_recv1 c r)
  have h3 (r : Fin 7) := launch_at (dCell 3 c r) N2 (sum_recv3 c r)
  unfold creds
  rw [← hb, bigSep_congr fun r _ => congrArg cred (h1 r).symm, bigSep_congr fun r _ => congrArg cred (h3 r).symm]
  show (_ : sProp 𝕄) ⊢ _
  iintro ⟨Hb, -, H1, -, H3⟩
  isplitl [Hb]; · iexact Hb
  isplitl [H1]; · iexact H1
  iexact H3

end Cert.KernelIdeal.Attn
-- ==== Proof.Ideal.Run.lean ====
/-
# The run of the whole program

The pipeline around the kernel has no grid: its one point fetches the five operands, runs the body and stores the result.
Every execution ends, with each device's result array at `outAll`, its operands as they were and every counter at zero.
-/
module

public import proofs.«01_k».proof.Proof.Ideal.Deal
public import Idealize.ShloMosaic.Lib.Pipeline.CollectiveSegs

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's one point -/

def t₀ : Fin cfg0.N := t0_0
theorem fin_N (t : Fin cfg0.N) : t = t₀ := fin_N0 t

/-- What device `c`'s body starts from, its scratch buffers apart: the records under some names, its positions, its tokens and its credits. -/
def start (c : Dev nD) : sProp 𝕄 := iprop((∃ K, recs m ρ K ∗ poss (F := F) c ∗ toks (F := F) c) ∗ creds (F := F) c)
def Φ₀ (c : Dev nD) : sProp 𝕄 := iprop(start m ρ c ∗ scr (F := F) c)
/-- What it leaves: its scratch buffers, and its semaphores closed at zero. -/
def Φ₁ (c : Dev nD) : sProp 𝕄 := iprop(scr (F := F) c ∗ sems (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => kstg m ρ c
    | ⟨4, _⟩ => vstg m ρ c
    | ⟨5, _⟩ => outAll m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owing_none (c : Dev nD) : owing c ∅ ∅ ∅ = 0 := by
  unfold owing oweB owe1 owe2; simp

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (xstg m ρ c)
    ∗ stg c cc0_stg1_0 (wqstg m ρ c)
    ∗ stg c cc0_stg2_0 (wostg m ρ c)
    ∗ stg c cc0_stg3_0 (kstg m ρ c)
    ∗ stg c cc0_stg4_0 (vstg m ρ c)
    ∗ stg c cc0_stg5_0 (outAll m ρ c))

set_option maxHeartbeats 1600000 in
set_option maxRecDepth 4000 in
theorem sound_body (c : Dev nD) : bodyPre m ρ c ⊢ WP c (cc0_body xM (Memref.isWhole_whole _) wqM (Memref.isWhole_whole _) woM (Memref.isWhole_whole _) kM (Memref.isWhole_whole _) vM (Memref.isWhole_whole _) oM (Memref.isWhole_whole _) myM (Memref.isWhole_whole _) osM (Memref.isWhole_whole _) p1M (Memref.isWhole_whole _) p2M (Memref.isWhole_whole _) cc0_scratch4 cc0_scratch5 cc0_scratch6 cc0_scratch7) (fun _ => bodyPost m ρ c) := by
  unfold bodyPre Φ₀ start
  iintro ⟨⟨⟨⟨%K, HR, Hp, Ht⟩, Hc⟩, Hs⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = xstg m ρ c := by rw [hg0]; unfold Dat.before; rw [if_pos (fetch_0 t₀)]; rfl
  subst h0
  have h1 : g1 = wqstg m ρ c := by rw [hg1]; unfold Dat.before; rw [if_pos (fetch_1 t₀)]; rfl
  subst h1
  have h2 : g2 = wostg m ρ c := by rw [hg2]; unfold Dat.before; rw [if_pos (fetch_2 t₀)]; rfl
  subst h2
  have h3 : g3 = kstg m ρ c := by rw [hg3]; unfold Dat.before; rw [if_pos (fetch_3 t₀)]; rfl
  subst h3
  have h4 : g4 = vstg m ρ c := by rw [hg4]; unfold Dat.before; rw [if_pos (fetch_4 t₀)]; rfl
  subst h4
  unfold Dat.owesAt Pipeline.owesWithin
  icases Ho with ⟨%W, %hW, HO⟩
  rw [show (dats m ρ 0 c).owed t₀.castSucc = O₀ c from rfl]
  iapply (body m ρ K c) $$ [HR HO Hp Ht Hc Hs H0 H1 H2 H3 H4 H5]
  · isplitl [HR]; · iexact HR
    isplitl [HO]; · unfold ow; iexists W; iexact HO
    isplitl [Hp]; · iexact Hp
    isplitl [Ht]; · iexact Ht
    isplitl [Hc]; · iexact Hc
    isplitl [Hs]; · iexact Hs
    isplitl [H0 H1 H2 H3 H4]
    · unfold opsAt xPts wqPts woPts kPts vPts
      isplitl [H0]; · iexact H0
      isplitl [H1]; · iexact H1
      isplitl [H2]; · iexact H2
      isplitl [H3]; · iexact H3
      iexact H4
    unfold outAt
    iexists g5
    isplitr
    · ipureintro; exact fun d hd => absurd hd (Finset.notMem_empty d)
    iexact H5
  rw [owing_none]
  unfold ow opsAt xPts wqPts woPts kPts vPts outAt
  iintro ⟨⟨%W', HO⟩, Hz, Hs, ⟨H0, H1, H2, H3, H4⟩, ⟨%f, %hf, H5⟩⟩
  unfold bodyPost Φ₁ Dat.owesAt Pipeline.owesWithin
  isplitl [Hs Hz]
  · isplitl [Hs]; · iexact Hs
    iexact Hz
  isplitl [HO]
  · rw [show (dats m ρ 0 c).owed t₀.succ = 0 from rfl]
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists f; isplitr; · (ipureintro; exact outF_univ m ρ c f hf)
  iexact H5

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch's side conditions -/

theorem ownSemFacts : Pipeline.OwnSemFacts cfg0.spec osem where
  isScoped := by decide +kernel
  inj := fun jr jr' h => Option.some.inj (csem_injective (a₁ := some jr) (a₂ := some jr') h)
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G' cellRecs recs
  icases HG with ⟨%K, ⟨HI, HR⟩, Hp, Ht⟩
  isplitl
  · isplitl [HI HR Hlev Hp Ht]
    · iexists K
      isplitl [HI HR Hlev]
      · isplitl [HI]; · iexact HI
        isplitl [HR]; · iexact HR
        iexact Hlev
      isplitl [Hp]; · iexact Hp
      iexact Ht
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_arr]
  unfold Φ₁ scr sems
  iintro ⟨Hr, Hb, Hs⟩
  isplitl [Hb]; · iexact Hb
  isplitl [Hs]; · iexact Hs
  iexact Hr

/-- A staging semaphore is none of the protocol's cells. -/
theorem kindOf_stage (w : Fin cfg0.W) (s : Fin (spec0 w).nbuf) : kindOf (.dma ((spec0 w).sem s)) = none := by
  by_contra h
  obtain ⟨k, hk⟩ := Option.ne_none_iff_exists'.mp h
  have hc : csem k = .dma ((spec0 w).sem s) := (Function.partialInv_of_injective csem_injective k _).mp hk
  rcases k with _ | jr
  · cases hc
  · exact ownSemFacts.disj jr w s hc

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_lv c _ 0 (by rw [show kindOf (.dma ((spec0 w).sem s)) = none from kindOf_stage w s]; exact Nat.le_refl 0) _ _ _
        (.inr (by decide)) (.inr (by decide)) (.inr (by decide))
    · show _ ⊢ MayWait _ _ () 0
      rw [MayWait_zero]; iintro -; iempintro

/-! ## The run -/

/-- The contents of window `w`'s array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the eight devices' programs terminates, and in every
    final state the arrays hold `finalA` and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array after the run holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The result's array after the run holds `outAll`. -/
theorem finalA_out (c : Dev nD) : finalA m ρ c (5 : Fin 6) = outAll m ρ c := by
  have h : (win0_5.blk (0 : Fin 1)).view.read (Elt F) (finalA m ρ c (5 : Fin 6)) = outAll m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero _ _ (funext fun a => by fin_cases a <;> rfl) _ _).symm.trans h

/-- What the run leaves: the result of every device, and the operands of every device as they were. -/
theorem run_value : θ_run defs (onTc (τ := τ) (main (F := F))) ⟨m, fun _ => 0, ρ⟩ (fun r => (∀ c : Dev nD,
    r.2.mem ((c.tc : Thread nD τ).loc main_v1) = outAll m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (finalA_out m ρ c),
    (h.1 c (0 : Fin 6)).trans (finalA_in m ρ c 0 rfl), (h.1 c (1 : Fin 6)).trans (finalA_in m ρ c 1 rfl),
    (h.1 c (3 : Fin 6)).trans (finalA_in m ρ c 3 rfl), (h.1 c (4 : Fin 6)).trans (finalA_in m ρ c 4 rfl),
    (h.1 c (2 : Fin 6)).trans (finalA_in m ρ c 2 rfl)⟩, h.2⟩) (run_main m ρ)

end Cert.KernelIdeal.Attn
-- ==== Proof.Value.Kernel.lean ====
/-
# What the eight devices compute, over the extended reals

The result of `Proof/Ideal/Values.lean` read at an index. A device's numerator for the query row `i` and the column `j` is
the sum over its own 4096 keys of exp(score) times value; the eight devices' tables add up, in whatever order, to a sum over
the devices; a conversion between float formats is the identity, so every device ends with the same result.
-/
module

public import proofs.«01_k».proof.Proof.Ideal.Values
public import Idealize.ShloMosaic.Lib.Pointwise

@[expose] public section

set_option maxRecDepth 16384

noncomputable section

namespace Cert.KernelIdeal.Attn

open Cert.KernelIdeal Cert.KernelIdeal.Gen Idealize.ShloMosaic
open Idealize.ShloMosaic.TcCoe

variable (m : (ℓ : Loc nD τ sig) → Buf (Elt Ideal) ℓ) (ρ : Dev nD → PrngReg)

/-! ## A device's arrays -/

/-- Device `c`'s input, its query weights, its shard of the keys, its shard of the values, its output weights. -/
def inX (c : Dev nD) : FVec Ideal S1x256x1024 .f32 := m ((c : Thread nD τ).loc main_arg0)
@[inherit_doc inX] def inWq (c : Dev nD) : FVec Ideal S1024x1024 .f32 := m ((c : Thread nD τ).loc main_arg1)
@[inherit_doc inX] def inK (c : Dev nD) : FVec Ideal S1x4096x2x128 .f32 := m ((c : Thread nD τ).loc main_arg2)
@[inherit_doc inX] def inV (c : Dev nD) : FVec Ideal S1x4096x2x128 .f32 := m ((c : Thread nD τ).loc main_arg3)
@[inherit_doc inX] def inWo (c : Dev nD) : FVec Ideal S1024x1024 .f32 := m ((c : Thread nD τ).loc main_arg4)

/-! ## The staged operands are the device's arrays -/

theorem xstg_eq (c : Dev nD) : xstg m ρ c = inX m c :=
  Memref.read_access_unit_zero _ _ (funext fun a => by fin_cases a <;> rfl) _ _
theorem wqstg_eq (c : Dev nD) : wqstg m ρ c = inWq m c :=
  Memref.read_access_unit_zero _ _ (funext fun a => by fin_cases a <;> rfl) _ _
theorem wostg_eq (c : Dev nD) : wostg m ρ c = inWo m c :=
  Memref.read_access_unit_zero _ _ (funext fun a => by fin_cases a <;> rfl) _ _
theorem kstg_eq (c : Dev nD) : kstg m ρ c = inK m c :=
  Memref.read_access_unit_zero _ _ (funext fun a => by fin_cases a <;> rfl) _ _
theorem vstg_eq (c : Dev nD) : vstg m ρ c = inV m c :=
  Memref.read_access_unit_zero _ _ (funext fun a => by fin_cases a <;> rfl) _ _

/-- Where the keys' rectangle puts key `t`, feature `f`. -/
theorem kvRect_idx (g : Fin 2) (t : Fin 4096) (f : Fin 128) : (kvRect g).toLoadRect.idx (ix4 0 t 0 f) = ix4 0 t g f := by
  funext a
  apply Fin.ext
  fin_cases a <;> simp [ix4, LoadRect.idx]

theorem kv_apply (c : Dev nD) (g : Fin 2) (t : Fin 4096) (f : Fin 128) :
    kv m ρ c g (ix4 0 t 0 f) = inK m c (ix4 0 t g f) :=
  (congrArg (kstg m ρ c) (kvRect_idx g t f)).trans (congrFun (kstg_eq m ρ c) _)
theorem vv_apply (c : Dev nD) (g : Fin 2) (t : Fin 4096) (f : Fin 128) :
    vv m ρ c g (ix4 0 t 0 f) = inV m c (ix4 0 t g f) :=
  (congrArg (vstg m ρ c) (kvRect_idx g t f)).trans (congrFun (vstg_eq m ρ c) _)

/-! ## One device's tables -/

/-- The score of query row `i` under head `h` against key `t` of a device that holds the keys `k`. -/
def keyScore (x : FVec Ideal S1x256x1024 .f32) (wq : FVec Ideal S1024x1024 .f32) (k : FVec Ideal S1x4096x2x128 .f32)
    (i : Fin 256) (h : Fin 8) (t : Fin 4096) : EReal :=
  ∑ f : Fin 128, (∑ y : Fin 1024, x (ix3 0 i y) * wq (ix2 y ⟨128 * h.val + f.val, by omega⟩)) * Ideal.ofBits .f32 0x3DB504F3#32
    * k (ix4 0 t (kvHead h) f)

theorem qv_apply (c : Dev nD) (i : Fin 256) (j : Fin 1024) : qv m ρ c (ix2 i j)
    = (∑ y : Fin 1024, inX m c (ix3 0 i y) * inWq m c (ix2 y j))
      * Ideal.ofBits .f32 0x3DB504F3#32 := by
  rw [qv, xstg_eq, wqstg_eq]
  pointwise [k0_pay1]

/-- exp(score) as the device holds it, in halves of 128 rows. -/
theorem expS_apply (c : Dev nD) (a : Fin 2) (h : Fin 8) (i : Fin 128) (t : Fin 4096) :
    expS (qv m ρ c) (kv m ρ c (kvHead h)) a h (ix2 i t)
      = Ideal.exp (keyScore (inX m c) (inWq m c) (inK m c)
          ⟨128 * a.val + i.val, by omega⟩ h t) := by
  pointwise [expS]
  simp only [kv_apply, qv_apply, keyScore]

theorem numV_apply (c : Dev nD) (a : Fin 2) (h : Fin 8) (i : Fin 128) (f : Fin 128) : numV m ρ c a h (ix2 i f)
    = ∑ t : Fin 4096, Ideal.exp (keyScore (inX m c) (inWq m c)
        (inK m c) ⟨128 * a.val + i.val, by omega⟩ h t) * inV m c (ix4 0 t (kvHead h) f) := by
  pointwise [numV]
  simp only [expS_apply, vv_apply]

theorem lV_apply (c : Dev nD) (a : Fin 2) (h : Fin 8) (i : Fin 128) : lV m ρ c a h (ix2 i 0)
    = ∑ t : Fin 4096, Ideal.exp (keyScore (inX m c) (inWq m c)
        (inK m c) ⟨128 * a.val + i.val, by omega⟩ h t) := by
  pointwise [lV]
  simp only [expS_apply]

/-- The sums side by side: column `h` is head `h`'s. -/
theorem lAll_apply (c : Dev nD) (a : Fin 2) (h : Fin 8) (i : Fin 128) : lAll m ρ c a (ix2 i h) = lV m ρ c a h (ix2 i 0) := by
  fin_cases h <;> pointwise [lAll, k0_pay28]

/-- Device `d`'s numerator at row `i`, column `j`. -/
theorem numT_apply (d : Dev nD) (i : Fin 256) (j : Fin 1024) : numT m ρ d i j
    = ∑ t : Fin 4096, Ideal.exp (keyScore (inX m d) (inWq m d)
        (inK m d) i ⟨j.val / 128, by omega⟩ t)
        * inV m d (ix4 0 t (kvHead ⟨j.val / 128, by omega⟩) ⟨j.val % 128, by omega⟩) := by
  refine (numV_apply m ρ d _ _ _ _).trans ?_
  have e : (⟨128 * (i.val / 128) + i.val % 128, by omega⟩ : Fin 256) = i := Fin.ext (Nat.div_add_mod _ _)
  simp only [e]

/-- Device `d`'s sum of exp(score) at row `i`, head `h`. -/
theorem denT_apply (d : Dev nD) (i : Fin 256) (h : Fin 8) : denT m ρ d i h
    = ∑ t : Fin 4096, Ideal.exp (keyScore (inX m d) (inWq m d)
        (inK m d) i h t) := by
  refine ((lAll_apply m ρ d _ _ _).trans (lV_apply m ρ d _ _ _)).trans ?_
  have e : (⟨128 * (i.val / 128) + i.val % 128, by omega⟩ : Fin 256) = i := Fin.ext (Nat.div_add_mod _ _)
  simp only [e]

/-! ## The sum over the devices -/

/-- The owner first, then the devices one place up, two places up, ...: all eight. -/
theorem sum_up (f : Dev nD → EReal) (b : Dev nD) :
    f b + f (up b 0) + f (up b 1) + f (up b 2) + f (up b 3) + f (up b 4) + f (up b 5) + f (up b 6) = ∑ d : Dev nD, f d := by
  have e : ∀ r : Fin 8, (Equiv.addLeft (b : Fin 8)) r = if h : r.val = 0 then b else up b ⟨r.val - 1, by omega⟩ := by
    revert b; decide
  rw [show (∑ d : Dev nD, f d) = ∑ r : Fin 8, f (Equiv.addLeft (b : Fin 8) r) from (Equiv.sum_comp (Equiv.addLeft (b : Fin 8)) f).symm]
  simp only [e, Fin.sum_univ_eight]
  rfl

theorem sumN_apply (b : Dev nD) (i : Fin 32) (j : Fin 1024) :
    sumN m ρ b (ix2 i j) = ∑ d : Dev nD, numT m ρ d (rowOf b i) j := by
  rw [← sum_up _ b]
  pointwise [sumN, numB]
theorem sumD_apply (b : Dev nD) (i : Fin 32) (h : Fin 8) :
    sumD m ρ b (ix2 i h) = ∑ d : Dev nD, denT m ρ d (rowOf b i) h := by
  rw [← sum_up _ b]
  pointwise [sumD, denB]

/-! ## The result -/

theorem outv_apply (b : Dev nD) (i : Fin 32) (o : Fin 1024) : outv m ρ b (ix2 i o)
    = ∑ j : Fin 1024, Ideal.div (∑ d : Dev nD, numT m ρ d (rowOf b i) j) (∑ d : Dev nD, denT m ρ d (rowOf b i) ⟨j.val / 128, by omega⟩)
        * inWo m b (ix2 j o) := by
  pointwise [outv]
  simp only [sumN_apply, sumD_apply, wostg_eq]

/-- What a device receives of a block is what its owner computed. -/
theorem recvv_apply (b : Dev nD) (i : Fin 32) (o : Fin 1024) : recvv m ρ b (ix2 i o) = outv m ρ b (ix2 i o) := by
  pointwise [recvv, ostv]

/-- Row `i`, column `o` of the result, on every device. -/
theorem outAll_apply (c : Dev nD) (i : Fin 256) (o : Fin 1024) : ∃ b : Dev nD, outAll m ρ c (ix2 i o)
    = ∑ j : Fin 1024, Ideal.div (∑ d : Dev nD, numT m ρ d i j) (∑ d : Dev nD, denT m ρ d i ⟨j.val / 128, by omega⟩)
        * inWo m b (ix2 j o) := by
  let b : Dev nD := ⟨i.val / 32, by show _ < 8; omega⟩
  refine ⟨b, ?_⟩
  have e : rowOf b ⟨i.val % 32, by omega⟩ = i := Fin.ext (Nat.div_add_mod _ _)
  have h : outAll m ρ c (ix2 i o) = outB m ρ c b (ix2 ⟨i.val % 32, by omega⟩ o) := rfl
  have h' : outB m ρ c b (ix2 ⟨i.val % 32, by omega⟩ o) = outv m ρ b (ix2 ⟨i.val % 32, by omega⟩ o) := by
    unfold outB
    split
    · next hb => rw [hb]
    · exact recvv_apply m ρ b _ o
  rw [h, h', outv_apply]
  simp only [e]

end Cert.KernelIdeal.Attn

end
-- ==== Proof.Value.Reference.lean ====
/-
# What the reference computes, over the extended reals

The reference's operations in four steps, each read at an index: the scores; the weights exp(score - maximum); the weighted
values over the sum of the weights; the projection. Then the run: the result array holds their composition.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Idealize.ShloMosaic Idealize.SL.Sem
open Cert.ReferenceIdeal.Facts

variable (x : FVec Ideal S1x256x1024 .f32) (wq : FVec Ideal S1024x1024 .f32) (k v : FVec Ideal S1x32768x2x128 .f32)
  (wo : FVec Ideal S1024x1024 .f32)

/-- The scores: queries against keys, each key head serving four query heads, scaled. -/
def scores : FVec Ideal S1x8x256x32768 .f32 :=
  mulf (Host.dotGeneral dot_S1x256x8x128_S1x32768x8x128_S1x8x256x32768_3_3_1_1_02_02 none
      (shapeCast S1x256x8x128 (Host.dotGeneral dot_S1x256x1024_S1024x1024_S1x256x1024_2_0_01_1_n_n none x wq) shapeCasts_S1x256x1024_S1x256x8x128)
      (shapeCast S1x32768x8x128 (broadcastInDim S1x32768x2x4x128 ![0, 1, 2, 4] bcast_S1x32768x2x128_S1x32768x2x4x128_0_1_2_4 k)
        shapeCasts_S1x32768x2x4x128_S1x32768x8x128))
    (broadcastInDim S1x8x256x32768 ![] bcast_S_S1x8x256x32768 (constant S_ .f32 0x3DB504F3#32))

/-- The weights: exp of a score less the maximum of its row. -/
def weights (s : FVec Ideal S1x8x256x32768 .f32) : FVec Ideal S1x8x256x32768 .f32 :=
  Host.exp (subf s (broadcastInDim S1x8x256x32768 ![0, 1, 2, 3] bcast_S1x8x256x1_S1x8x256x32768_0_1_2_3
    (broadcastInDim S1x8x256x1 ![0, 1, 2] bcast_S1x8x256_S1x8x256x1_0_1_2
      (Host.reduce FloatOps.maximumf s (constant S_ .f32 0xFF800000#32) reducesTo_S1x8x256x32768_S1x8x256_d3 h_S_))))

/-- The weighted values over the sum of the weights. -/
def averages (p : FVec Ideal S1x8x256x32768 .f32) : FVec Ideal S1x256x8x128 .f32 :=
  Host.divf
    (transpose S1x256x8x128 [0, 3, 1, 2] (Host.dotGeneral dot_S1x32768x8x128_S1x8x256x32768_S1x8x128x256_1_3_3_2_02_01 none
      (shapeCast S1x32768x8x128 (broadcastInDim S1x32768x2x4x128 ![0, 1, 2, 4] bcast_S1x32768x2x128_S1x32768x2x4x128_0_1_2_4 v)
        shapeCasts_S1x32768x2x4x128_S1x32768x8x128) p) transposes_S1x8x128x256_S1x256x8x128_0_3_1_2)
    (broadcastInDim S1x256x8x128 ![0, 1, 2, 3] bcast_S1x256x8x1_S1x256x8x128_0_1_2_3 (transpose S1x256x8x1 [0, 2, 1, 3]
      (broadcastInDim S1x8x256x1 ![0, 1, 2] bcast_S1x8x256_S1x8x256x1_0_1_2
        (Host.reduceAdd p (constant S_ .f32 0x00000000#32) reducesTo_S1x8x256x32768_S1x8x256_d3 h_S_)) transposes_S1x8x256x1_S1x256x8x1_0_2_1_3))

/-- The heads side by side, projected. -/
def projected (y : FVec Ideal S1x256x8x128 .f32) : FVec Ideal S256x1024 .f32 :=
  shapeCast S256x1024 (Host.dotGeneral dot_S1x256x1024_S1024x1024_S1x256x1024_2_0_01_1_n_n none
    (shapeCast S1x256x1024 y shapeCasts_S1x256x8x128_S1x256x1024) wo) shapeCasts_S1x256x1024_S256x1024

/-- The reference's result. -/
def attention : FVec Ideal S256x1024 .f32 := projected wo (averages v (weights (scores x wq k)))

theorem scores_apply (h : Fin 8) (i : Fin 256) (t : Fin 32768) : scores x wq k (ix4 0 h i t)
    = (∑ f : Fin 128, (∑ y : Fin 1024, x (ix3 0 i y) * wq (ix2 y ⟨h.val * 128 + f.val, by omega⟩)) * k (ix4 0 t ⟨h.val / 4, by omega⟩ f))
      * Ideal.ofBits .f32 0x3DB504F3#32 := by
  pointwise [scores]

theorem weights_apply (s : FVec Ideal S1x8x256x32768 .f32) (h : Fin 8) (i : Fin 256) (t : Fin 32768) : weights s (ix4 0 h i t)
    = Ideal.exp (s (ix4 0 h i t) - Finset.univ.fold max (Ideal.ofBits .f32 0xFF800000#32) fun u : Fin 32768 => s (ix4 0 h i u)) := by
  pointwise [weights]

theorem averages_apply (p : FVec Ideal S1x8x256x32768 .f32) (i : Fin 256) (h : Fin 8) (f : Fin 128) : averages v p (ix4 0 i h f)
    = Ideal.div (∑ t : Fin 32768, v (ix4 0 t ⟨h.val / 4, by omega⟩ f) * p (ix4 0 h i t)) (∑ t : Fin 32768, p (ix4 0 h i t)) := by
  pointwise [averages]

theorem projected_apply (y : FVec Ideal S1x256x8x128 .f32) (i : Fin 256) (o : Fin 1024) : projected wo y (ix2 i o)
    = ∑ j : Fin 1024, y (ix4 0 i ⟨j.val / 128, by omega⟩ ⟨j.val % 128, by omega⟩) * wo (ix2 j o) := by
  pointwise [projected]

/-- Every execution of the reference ends with its result array at `attention` of its arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
        = attention (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Attn

end
-- ==== Proof.Value.Softmax.lean ====
/-
# Softmax with and without the subtracted maximum

For finite scores `s` and any finite number `M`, the weights exp(s - M) and exp(s) give one quotient: exp(M) leaves the sums
and cancels. The values are arbitrary extended reals. The maximum of finitely many finite scores is finite. Also here: the
numbers that occur are finite because sums and products of finite numbers are.
-/
module

public import Idealize.ShloMosaic.PureOps.Ideal.Laws

@[expose] public section

noncomputable section

namespace Cert.Attn

open Idealize.ShloMosaic
open scoped BigOperators

/-- A finite extended real. -/
def Finite (a : EReal) : Prop := ∃ r : ℝ, a = (r : EReal)

theorem Finite.mul {a b : EReal} (ha : Finite a) (hb : Finite b) : Finite (a * b) := by
  obtain ⟨r, rfl⟩ := ha; obtain ⟨s, rfl⟩ := hb
  exact ⟨r * s, (EReal.coe_mul r s).symm⟩

/-- A sum of finite numbers is the sum of the real numbers. -/
theorem coe_sum {ι : Type*} (s : Finset ι) (f : ι → ℝ) : ∑ k ∈ s, (f k : EReal) = ((∑ k ∈ s, f k : ℝ) : EReal) :=
  (map_sum (⟨⟨fun r : ℝ => (r : EReal), EReal.coe_zero⟩, EReal.coe_add⟩ : ℝ →+ EReal) f s).symm

theorem Finite.sum {ι : Type*} (s : Finset ι) (f : ι → EReal) (h : ∀ k, Finite (f k)) : Finite (∑ k ∈ s, f k) := by
  choose g hg using h
  exact ⟨∑ k ∈ s, g k, by rw [← coe_sum]; exact Finset.sum_congr rfl fun k _ => hg k⟩

/-- A finite number that is not negative goes into a sum of arbitrary numbers. -/
theorem mul_sum_of_nonneg {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- Scaling one factor of a sum of products of finite numbers scales the sum. -/
theorem sum_scaled {ι : Type*} [Fintype ι] (q k : ι → EReal) (c : EReal) (hq : ∀ d, Finite (q d)) (hk : ∀ d, Finite (k d))
    (hc : Finite c) : ∑ d, q d * c * k d = (∑ d, q d * k d) * c := by
  choose q' hq using hq
  choose k' hk using hk
  obtain ⟨c', rfl⟩ := hc
  simp only [hq, hk, ← EReal.coe_mul, coe_sum]
  congr 1
  rw [Finset.sum_mul]
  exact Finset.sum_congr rfl fun d _ => by ring

/-- The maximum of finitely many finite numbers, at least one, is finite. -/
theorem finite_max {ι : Type*} [Fintype ι] [Nonempty ι] (s : ι → EReal) (h : ∀ k, Finite (s k)) :
    Finite ((Finset.univ : Finset ι).fold max ⊥ s) := by
  obtain ⟨k, _, hk⟩ := Finset.exists_mem_eq_sup (Finset.univ : Finset ι) Finset.univ_nonempty s
  obtain ⟨r, hr⟩ := h k
  exact ⟨r, (hk.trans hr : Finset.univ.sup s = _)⟩

/-- The two forms of softmax applied to values: the weights exp(s), and the weights exp(s - M). -/
theorem softmax_shift {ι : Type*} [Fintype ι] [Nonempty ι] (s v : ι → EReal) (M : EReal) (hs : ∀ t, Finite (s t)) (hM : Finite M) :
    Ideal.div (∑ t, Ideal.exp (s t) * v t) (∑ t, Ideal.exp (s t))
      = Ideal.div (∑ t, v t * Ideal.exp (s t - M)) (∑ t, Ideal.exp (s t - M)) := by
  choose r hr using hs
  obtain ⟨μ, rfl⟩ := hM
  have he : ∀ t, Ideal.exp (s t) = (Real.exp μ : EReal) * (Real.exp (r t - μ) : EReal) := fun t => by
    rw [hr t, Ideal.exp_coe, ← EReal.coe_mul, ← Real.exp_add, add_sub_cancel]
  have hp : ∀ t, Ideal.exp (s t - (μ : EReal)) = (Real.exp (r t - μ) : EReal) := fun t => by
    rw [hr t, ← EReal.coe_sub, Ideal.exp_coe]
  simp only [hp]
  have hn : ∑ t, Ideal.exp (s t) * v t = (Real.exp μ : EReal) * ∑ t, v t * (Real.exp (r t - μ) : EReal) := by
    rw [mul_sum_of_nonneg _ _ (Real.exp_pos μ).le]
    exact Finset.sum_congr rfl fun t _ => by rw [he t, mul_assoc, mul_comm (v t)]
  have hl : ∑ t, Ideal.exp (s t) = ((Real.exp μ * ∑ t, Real.exp (r t - μ) : ℝ) : EReal) := by
    rw [EReal.coe_mul, ← coe_sum, mul_sum_of_nonneg _ _ (Real.exp_pos μ).le]
    exact Finset.sum_congr rfl fun t _ => he t
  have hL : 0 < ∑ t, Real.exp (r t - μ) := Finset.sum_pos (fun t _ => Real.exp_pos _) Finset.univ_nonempty
  have hE := Real.exp_pos μ
  rw [hn, hl, coe_sum, Ideal.div_coe (mul_pos hE hL).ne', Ideal.div_coe hL.ne', mul_comm (Real.exp μ : EReal), mul_assoc,
    ← EReal.coe_mul]
  congr 2
  field_simp

end Cert.Attn

end
-- ==== Proof.Value.Equation.lean ====
/-
# The equation

Device `d` holds the keys 4096 d, ..., 4096 d + 4095 and their values, so the sums over the devices of the sums over their own
keys are the sums over all the keys. With finite scores, scaling the queries or the products is the same, and exp(score) and
exp(score - maximum) give the same averages. So every device's result is the reference's.
-/
module

public import proofs.«01_k».proof.Proof.Value.Kernel
public import proofs.«01_k».proof.Proof.Value.Reference
public import proofs.«01_k».proof.Proof.Value.Softmax
public import Idealize.ShloMosaic.Lib.Layout

@[expose] public section

noncomputable section

namespace Cert.Attn

open Idealize.ShloMosaic Cert.KernelIdeal.Attn Cert.ReferenceIdeal.Attn
open scoped BigOperators

/-- The shapes of a device's shard and of the whole array of keys. -/
abbrev Shard : Shape := ⟨4, ![1, 4096, 2, 128]⟩
@[inherit_doc Shard] abbrev Whole : Shape := ⟨4, ![1, 32768, 2, 128]⟩

/-- Device `d`'s key `t` among all the keys. -/
def key (d : Fin 8) (t : Fin 4096) : Fin 32768 := ⟨d.val * 4096 + t.val, by omega⟩

theorem block_key {α : Type} (K : Whole.Idx → α) (d : Fin 8) (t : Fin 4096) (g : Fin 2) (f : Fin 128) :
    Layout.block Shard Whole 1 8 d K (by decide) (ix4 0 t g f) = K (ix4 0 (key d t) g f) := by
  rw [Layout.block_apply]
  refine congrArg K (funext fun a => Fin.ext ?_)
  fin_cases a <;> rfl

/-- An array whose every block is finite is finite. -/
theorem finite_of_blocks (K : Whole.Idx → EReal) (h : ∀ d : Fin 8, ∀ i, Finite (Layout.block Shard Whole 1 8 d K (by decide) i))
    (p : Whole.Idx) : Finite (K p) := by
  have ht : (p 1).val < 32768 := (p 1).isLt
  have e := block_key K ⟨(p 1).val / 4096, by omega⟩ ⟨(p 1).val % 4096, by omega⟩ (p 2) (p 3)
  have hp : ix4 0 (key ⟨(p 1).val / 4096, by omega⟩ ⟨(p 1).val % 4096, by omega⟩) (p 2) (p 3) = p := by
    funext a
    apply Fin.ext
    fin_cases a
    · show (0 : ℕ) = (p 0).val
      have : (p 0).val < 1 := (p 0).isLt
      omega
    · exact Nat.div_add_mod' _ _
    · rfl
    · rfl
  exact (congrArg Finite (e.trans (congrArg K hp))).mp (h _ _)

/-- Over the devices and each device's keys is over all the keys. -/
theorem sum_keys (f : Fin 32768 → EReal) : ∑ d : Fin 8, ∑ t : Fin 4096, f (key d t) = ∑ T : Fin 32768, f T := by
  rw [← Fintype.sum_prod_type' (f := fun d t => f (key d t))]
  refine Fintype.sum_equiv (finProdFinEquiv (m := 8) (n := 4096)) _ f fun p => congrArg f (Fin.ext ?_)
  show p.1.val * 4096 + p.2.val = p.2.val + 4096 * p.1.val
  omega

theorem ofBits_bot : Ideal.ofBits .f32 0xFF800000#32 = ⊥ := by simp [Ideal.ofBits, Ideal.ieee]
theorem finite_scale : Finite (Ideal.ofBits .f32 0x3DB504F3#32) := ⟨_, rfl⟩

section
variable {x : FVec Ideal Cert.ReferenceIdeal.S1x256x1024 .f32} {wq : FVec Ideal Cert.ReferenceIdeal.S1024x1024 .f32}
  {K : FVec Ideal Cert.ReferenceIdeal.S1x32768x2x128 .f32}

/-- A query is finite. -/
theorem finite_query (hx : ∀ i, Finite (x i)) (hw : ∀ i, Finite (wq i)) (i : Fin 256) (j : Fin 1024) :
    Finite (∑ y : Fin 1024, x (ix3 0 i y) * wq (ix2 y j)) := Finite.sum _ _ fun _ => (hx _).mul (hw _)

/-- A score is finite. -/
theorem finite_scores (hx : ∀ i, Finite (x i)) (hw : ∀ i, Finite (wq i)) (hK : ∀ i, Finite (K i)) (h : Fin 8) (i : Fin 256)
    (t : Fin 32768) : Finite (scores x wq K (ix4 0 h i t)) := by
  rw [scores_apply]
  exact (Finite.sum _ _ fun _ => (finite_query hx hw i _).mul (hK _)).mul finite_scale

/-- A device's score is the reference's. -/
theorem keyScore_eq (hx : ∀ i, Finite (x i)) (hw : ∀ i, Finite (wq i)) (hK : ∀ i, Finite (K i)) (h : Fin 8) (i : Fin 256) (d : Fin 8)
    (t : Fin 4096) : keyScore x wq (Layout.block Shard Whole 1 8 d K) i h t = scores x wq K (ix4 0 h i (key d t)) := by
  rw [scores_apply, keyScore, sum_scaled _ _ _ (fun _ => finite_query hx hw i _) (fun f => by rw [block_key]; exact hK _) finite_scale]
  simp only [block_key, Nat.mul_comm 128]
  rfl

/-- The averages in the kernel's form and in the reference's. -/
theorem averages_eq (hx : ∀ i, Finite (x i)) (hw : ∀ i, Finite (wq i)) (hK : ∀ i, Finite (K i))
    (V : FVec Ideal Cert.ReferenceIdeal.S1x32768x2x128 .f32) (i : Fin 256) (h : Fin 8) (f : Fin 128) :
    averages V (weights (scores x wq K)) (ix4 0 i h f)
      = Ideal.div (∑ T : Fin 32768, Ideal.exp (scores x wq K (ix4 0 h i T)) * V (ix4 0 T (kvHead h) f))
          (∑ T : Fin 32768, Ideal.exp (scores x wq K (ix4 0 h i T))) := by
  rw [averages_apply]
  simp only [weights_apply, ofBits_bot]
  exact (softmax_shift (fun T => scores x wq K (ix4 0 h i T)) (fun T => V (ix4 0 T (kvHead h) f)) _
    (finite_scores hx hw hK h i) (finite_max _ (finite_scores hx hw hK h i))).symm
end

/-- Every device's result is the reference's. -/
theorem outAll_eq (m : (ℓ : Loc Cert.KernelIdeal.nD Cert.KernelIdeal.τ Cert.KernelIdeal.sig) → Buf (Elt Ideal) ℓ)
    (ρ : Dev Cert.KernelIdeal.nD → PrngReg) {x : FVec Ideal Cert.ReferenceIdeal.S1x256x1024 .f32}
    {wq wo : FVec Ideal Cert.ReferenceIdeal.S1024x1024 .f32} {K V : FVec Ideal Cert.ReferenceIdeal.S1x32768x2x128 .f32}
    (ex : ∀ d, inX m d = x) (ew : ∀ d, inWq m d = wq) (eK : ∀ d, inK m d = Layout.block Shard Whole 1 8 d K)
    (eV : ∀ d, inV m d = Layout.block Shard Whole 1 8 d V) (eo : ∀ d, inWo m d = wo)
    (hx : ∀ i, Finite (x i)) (hw : ∀ i, Finite (wq i)) (hK : ∀ i, Finite (K i)) (c : Dev Cert.KernelIdeal.nD) :
    outAll m ρ c = attention x wq K V wo := by
  funext p
  obtain ⟨i, o, rfl⟩ : ∃ (i : Fin 256) (o : Fin 1024), p = ix2 i o := ⟨p 0, p 1, by funext a; fin_cases a <;> rfl⟩
  obtain ⟨b, hb⟩ := outAll_apply m ρ c i o
  rw [hb, attention, projected_apply]
  refine Finset.sum_congr rfl fun j _ => ?_
  rw [averages_eq hx hw hK, eo b]
  have hn : ∀ h : Fin 8, ∀ f : Fin 128, (∑ d : Fin 8, ∑ t : Fin 4096, Ideal.exp (keyScore (inX m d) (inWq m d) (inK m d) i h t)
      * inV m d (ix4 0 t (kvHead h) f)) = ∑ T : Fin 32768, Ideal.exp (scores x wq K (ix4 0 h i T)) * V (ix4 0 T (kvHead h) f) := fun h f => by
    rw [← sum_keys]
    simp only [ex, ew, eK, eV, keyScore_eq hx hw hK, block_key]
  have hd : ∀ h : Fin 8, (∑ d : Fin 8, ∑ t : Fin 4096, Ideal.exp (keyScore (inX m d) (inWq m d) (inK m d) i h t))
      = ∑ T : Fin 32768, Ideal.exp (scores x wq K (ix4 0 h i T)) := fun h => by
    rw [← sum_keys]
    simp only [ex, ew, eK, keyScore_eq hx hw hK]
  simp only [numT_apply, denT_apply]
  rw [← hn, ← hd]

end Cert.Attn

end
-- ==== Proof.Value.Pre.lean ====
/-
# What the precondition says

`scores_finite` compares |a| < +∞ at every entry of the input, of the query weights and of one device's keys, and takes the
conjunction. When it is true, those entries are finite.
-/
module

public import proofs.«01_k».proof.Pre_scores_finite_KernelIdeal
public import proofs.«01_k».proof.Proof.Value.Softmax
public import Idealize.ShloMosaic.Lib.ReduceAll

@[expose] public section

noncomputable section

namespace Cert.Attn

open Idealize.ShloMosaic Cert.Pre_scores_finite_KernelIdeal

/-- The word of +∞. -/
theorem ofBits_top : Ideal.ofBits .f32 0x7F800000#32 = ⊤ := by simp [Ideal.ofBits, Ideal.ieee]

/-- A number whose absolute value is below +∞ is finite. -/
theorem finite_of_abs_lt {a : EReal} (h : max a (-a) < ⊤) : Finite a := by
  rw [max_lt_iff] at h
  have hb : a ≠ ⊥ := fun e => by rw [e, EReal.neg_bot] at h; exact lt_irrefl _ h.2
  exact ⟨a.toReal, (EReal.coe_toReal h.1.ne hb).symm⟩

/-- The same of the comparison as a bit. -/
theorem finite_of_cmp {a : Ideal .f32} (h : FloatOps.cmpf .olt (FloatOps.absf a) (Ideal.ofBits .f32 0x7F800000#32 : Ideal .f32) = 1#1) :
    Finite a := by
  rw [Ideal.cmpf_def, Ideal.absf_def, ofBits_top] at h
  refine finite_of_abs_lt (of_not_not fun hn => ?_)
  simp [Ideal.cmp, hn] at h

instance : Subsingleton S_.Idx := ⟨fun _ _ => funext fun a => a.elim0⟩

theorem finite_of_pre [Facts] {x : FVec Ideal S1x256x1024 .f32} {wq : FVec Ideal S1024x1024 .f32} {k v : FVec Ideal S1x4096x2x128 .f32}
    {wo : FVec Ideal S1024x1024 .f32} (h : fn (F := Ideal) x wq k v wo = fun _ => 1#1) :
    (∀ i, Finite (x i)) ∧ (∀ i, Finite (wq i)) ∧ ∀ i, Finite (k i) := by
  have h0 := congrFun h (fun a => a.elim0)
  dsimp only [fn] at h0
  obtain ⟨hxw, hk⟩ := IntOp.andi_eq_one.1 h0
  obtain ⟨hx, hw⟩ := IntOp.andi_eq_one.1 hxw
  exact ⟨fun i => finite_of_cmp (Host.reduce_andi_all _ _ _ _ _ hx i), fun i => finite_of_cmp (Host.reduce_andi_all _ _ _ _ _ hw i),
    fun i => finite_of_cmp (Host.reduce_andi_all _ _ _ _ _ hk i)⟩

end Cert.Attn

end
-- ==== Proof.lean ====
/-
# The claims

The eight devices' program ends without fault with its operands as they were and every counter at zero, at both float
instances (`Proof/Bits/Run.lean`, `Proof/Ideal/Run.lean`: one protocol, one run); so does the reference. Over the extended
reals, with finite scores, every device's result is the reference's (`Proof/Value/Equation.lean`).
-/
module

public import proofs.«01_k».proof.Defs
public import proofs.«01_k».proof.Proof.Bits.Run
public import proofs.«01_k».proof.Proof.Ideal.Run
public import proofs.«01_k».proof.Proof.Value.Equation
public import proofs.«01_k».proof.Proof.Value.Pre
public import proofs.«01_k».proof.Proof.Gen.ReferenceIdeal
public import proofs.«01_k».proof.Proof.Gen.Pre_scores_finite_KernelIdeal
public import proofs.«01_k».proof.Proof.Gen.Pre_scores_finite_ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's frame at the machine's floats: its run, the result forgotten. -/
theorem frame_kernel : Cert.quiescent_Kernel (hKernel := Cert.Kernel.Gen.facts) := by
  intro m g _
  exact (θ_run (Cert.Kernel.defs (F := Bits)) _ _).mono (fun _ h => ⟨fun c => (h.1 c).2, h.2⟩) (Cert.Kernel.Attn.run_value (F := Bits) m g)

/-- The kernel's frame over the extended reals. -/
theorem frame_ideal : Cert.quiescent_KernelIdeal (hKernelIdeal := Cert.KernelIdeal.Gen.facts) := by
  intro m g _
  exact (θ_run (Cert.KernelIdeal.defs (F := Ideal)) _ _).mono (fun _ h => ⟨fun c => (h.1 c).2, h.2⟩) (Cert.KernelIdeal.Attn.run_value (F := Ideal) m g)

/-- The reference's frame: host operations alone, no semaphore. -/
theorem frame_reference : Cert.quiescent_ReferenceIdeal (hReferenceIdeal := Cert.ReferenceIdeal.Gen.facts) := by
  intro m g _
  exact (θ_run (Cert.ReferenceIdeal.defs (F := Ideal)) _ _).mono (fun r h => ⟨fun c => (h c).2, sem_eq_zero_of_no_sems (by decide) r.2⟩)
    (Cert.ReferenceIdeal.Value.run (F := Ideal) m g)

/-- Over the extended reals every device ends with the reference's result. -/
theorem algebraic : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := Cert.Pre_scores_finite_KernelIdeal.Gen.facts) := by
  intro m g m' g' hpre hio
  obtain ⟨px, pw, -⟩ := Cert.Attn.finite_of_pre (hpre 0)
  have hx := (hio 0).1
  have hw := (hio 0).2.1
  have hK : ∀ p, Cert.Attn.Finite (m' ((0 : Dev Cert.ReferenceIdeal.nD).tc.loc Cert.ReferenceIdeal.main_arg2) p) :=
    Cert.Attn.finite_of_blocks _ fun d => by
      have h := (Cert.Attn.finite_of_pre (hpre d)).2.2
      rw [(hio d).2.2.1] at h
      exact h
  rw [hx] at px
  rw [hw] at pw
  refine ⟨Cert.ReferenceIdeal.Attn.attention (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2))
    (m' ((0 : Dev Cert.ReferenceIdeal.nD).tc.loc Cert.ReferenceIdeal.main_arg3)) (m' ((0 : Dev Cert.ReferenceIdeal.nD).tc.loc Cert.ReferenceIdeal.main_arg4)), ?_, ?_⟩
  · refine (θ_run (Cert.KernelIdeal.defs (F := Ideal)) _ _).mono (fun r h c => ⟨(h.1 c).1.trans ?_, (h.1 c).2⟩)
      (Cert.KernelIdeal.Attn.run_value (F := Ideal) m g)
    exact Cert.Attn.outAll_eq m g (fun d => (hio d).1) (fun d => (hio d).2.1) (fun d => (hio d).2.2.1) (fun d => (hio d).2.2.2.1)
      (fun d => (hio d).2.2.2.2) px pw hK c
  · exact (θ_run (Cert.ReferenceIdeal.defs (F := Ideal)) _ _).mono (fun r h => h 0) (Cert.ReferenceIdeal.Attn.run_value m' g')

theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_ideal, fun m g _ => frame_ideal m g trivial, frame_reference, fun m g _ => frame_reference m g trivial,
  trivial, algebraic⟩

end Cert.Proof

end
